-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .bf16 0x3E03#16 (((Real.log 2)⁻¹ * (11863283 / 134217728) : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x512x1024 : Shape := ⟨3, ![1, 512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg2 : FVec F S1024x1024 .bf16) (main_v16 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_v20 : FVec F S1024x1024 .f32 := (extf .f32 · bitsLt_bf16_f32) main_arg2
  let main_cst_5 : FVec F S_ .f32 := constant S_ .f32 0xFF800000#32
  let main_v21 : FVec F S1024x1024 .f32 := broadcastInDim S1024x1024 ![] bcast_S_S1024x1024 main_cst_5
  let main_v22 : IVec S1024x1024 1 := cmpf .ogt main_v20 main_v21
  let main_v23 : IVec S1024x1024 1 := andi main_v19 main_v22
  let main_c_6 : IVec S_ 1 := constantI S_ 1 1#1
  let main_v24 : IVec S_ 1 := (fun x v => Host.reduce IntOp.andi x v reducesTo_S1024x1024_S_d0_1 h_S_) main_v23 main_c_6
  let main_v25 : IVec S_ 1 := andi main_v16 main_v24
  main_v25

def fn {F : FTy → Type} [FloatOps F] (main_arg0 : FVec F S1x512x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x512x1024 .f32 := (extf .f32 · bitsLt_bf16_f32) main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1x512x1024 .f32 := (extf .f32 · bitsLt_bf16_f32) main_arg0
  let main_cst_0 : FVec F S_ .f32 := constant S_ .f32 0xFF800000#32
  let main_v4 : FVec F S1x512x1024 .f32 := broadcastInDim S1x512x1024 ![] bcast_S_S1x512x1024 main_cst_0
  let main_v5 : IVec S1x512x1024 1 := cmpf .ogt main_v3 main_v4
  let main_v6 : IVec S1x512x1024 1 := andi main_v2 main_v5
  let main_c : IVec S_ 1 := constantI S_ 1 1#1
  let main_v7 : IVec S_ 1 := (fun x v => Host.reduce IntOp.andi x v reducesTo_S1x512x1024_S_d0_1_2 h_S_) main_v6 main_c
  let main_v8 : FVec F S1024x1024 .f32 := (extf .f32 · bitsLt_bf16_f32) main_arg1
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024x1024 .f32 := (extf .f32 · bitsLt_bf16_f32) main_arg1
  let main_cst_2 : FVec F S_ .f32 := constant S_ .f32 0xFF800000#32
  let main_v12 : FVec F S1024x1024 .f32 := broadcastInDim S1024x1024 ![] bcast_S_S1024x1024 main_cst_2
  let main_v13 : IVec S1024x1024 1 := cmpf .ogt main_v11 main_v12
  let main_v14 : IVec S1024x1024 1 := andi main_v10 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v7 main_v15
  let main_v17 : FVec F S1024x1024 .f32 := (extf .f32 · bitsLt_bf16_f32) main_arg2
  fn_part1 (F := F) main_arg2 main_v16 main_v17
-- ==== Pre_finite_scores_ReferenceIdeal.lean ====
abbrev S1x512x1024 : Shape := ⟨3, ![1, 512, 1024]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg2 : FVec F S1024x1024 .bf16) (main_v16 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_v20 : FVec F S1024x1024 .f32 := (extf .f32 · bitsLt_bf16_f32) main_arg2
  let main_cst_5 : FVec F S_ .f32 := constant S_ .f32 0xFF800000#32
  let main_v21 : FVec F S1024x1024 .f32 := broadcastInDim S1024x1024 ![] bcast_S_S1024x1024 main_cst_5
  let main_v22 : IVec S1024x1024 1 := cmpf .ogt main_v20 main_v21
  let main_v23 : IVec S1024x1024 1 := andi main_v19 main_v22
  let main_c_6 : IVec S_ 1 := constantI S_ 1 1#1
  let main_v24 : IVec S_ 1 := (fun x v => Host.reduce IntOp.andi x v reducesTo_S1024x1024_S_d0_1 h_S_) main_v23 main_c_6
  let main_v25 : IVec S_ 1 := andi main_v16 main_v24
  main_v25

def fn {F : FTy → Type} [FloatOps F] (main_arg0 : FVec F S1x512x1024 .bf16) (main_arg1 : FVec F S1024x4096 .bf16) (main_arg2 : FVec F S1024x1024 .bf16) (main_arg3 : FVec F S1024x1024 .bf16) (main_arg4 : FVec F S4096x1024 .bf16) : IVec S_ 1 :=
  let main_v0 : FVec F S1x512x1024 .f32 := (extf .f32 · bitsLt_bf16_f32) main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1x512x1024 .f32 := (extf .f32 · bitsLt_bf16_f32) main_arg0
  let main_cst_0 : FVec F S_ .f32 := constant S_ .f32 0xFF800000#32
  let main_v4 : FVec F S1x512x1024 .f32 := broadcastInDim S1x512x1024 ![] bcast_S_S1x512x1024 main_cst_0
  let main_v5 : IVec S1x512x1024 1 := cmpf .ogt main_v3 main_v4
  let main_v6 : IVec S1x512x1024 1 := andi main_v2 main_v5
  let main_c : IVec S_ 1 := constantI S_ 1 1#1
  let main_v7 : IVec S_ 1 := (fun x v => Host.reduce IntOp.andi x v reducesTo_S1x512x1024_S_d0_1_2 h_S_) main_v6 main_c
  let main_v8 : FVec F S1024x4096 .f32 := (extf .f32 · bitsLt_bf16_f32) main_arg1
  let main_cst_1 : FVec F S_ .f32 := constant S_ .f32 0x7F800000#32
  let main_v9 : FVec F S1024x4096 .f32 := broadcastInDim S1024x4096 ![] bcast_S_S1024x4096 main_cst_1
  let main_v10 : IVec S1024x4096 1 := cmpf .olt main_v8 main_v9
  let main_v11 : FVec F S1024x4096 .f32 := (extf .f32 · bitsLt_bf16_f32) main_arg1
  let main_cst_2 : FVec F S_ .f32 := constant S_ .f32 0xFF800000#32
  let main_v12 : FVec F S1024x4096 .f32 := broadcastInDim S1024x4096 ![] bcast_S_S1024x4096 main_cst_2
  let main_v13 : IVec S1024x4096 1 := cmpf .ogt main_v11 main_v12
  let main_v14 : IVec S1024x4096 1 := andi main_v10 main_v13
  let main_c_3 : IVec S_ 1 := constantI S_ 1 1#1
  let main_v15 : IVec S_ 1 := (fun x v => Host.reduce IntOp.andi x v reducesTo_S1024x4096_S_d0_1 h_S_) main_v14 main_c_3
  let main_v16 : IVec S_ 1 := andi main_v7 main_v15
  let main_v17 : FVec F S1024x1024 .f32 := (extf .f32 · bitsLt_bf16_f32) main_arg2
  fn_part1 (F := F) main_arg2 main_v16 main_v17
-- ==== Kernel.lean ====
abbrev S1x512x1024 : Shape := ⟨3, ![1, 512, 1024]⟩
abbrev S1024x1024 : Shape := ⟨2, ![1024, 1024]⟩
abbrev S_ : Shape := ⟨0, ![]⟩
abbrev S1024x256 : Shape := ⟨2, ![1024, 256]⟩
abbrev S1024x1536 : Shape := ⟨2, ![1024, 1536]⟩
abbrev S512x1024 : Shape := ⟨2, ![512, 1024]⟩
abbrev S4x128x1024 : Shape := ⟨3, ![4, 128, 1024]⟩
abbrev S4 : Shape := ⟨1, ![4]⟩
abbrev S1024x512 : Shape := ⟨2, ![1024, 512]⟩
abbrev S512x1536 : Shape := ⟨2, ![512, 1536]⟩
abbrev S512x256 : Shape := ⟨2, ![512, 256]⟩
abbrev S512x128 : Shape := ⟨2, ![512, 128]⟩
abbrev S128x512 : Shape := ⟨2, ![128, 512]⟩
abbrev S512x512 : Shape := ⟨2, ![512, 512]⟩
abbrev S512x1 : Shape := ⟨2, ![512, 1]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 31
  | .vmem => 8
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x256, .bf16⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1024x256, .bf16⟩
  | .hbm, ⟨27, _⟩ => ⟨S1024x1536, .bf16⟩
  | .hbm, ⟨28, _⟩ => ⟨S512x1024, .bf16⟩
  | .hbm, ⟨29, _⟩ => ⟨S512x1024, .bf16⟩
  | .hbm, ⟨30, _⟩ => ⟨S1x512x1024, .bf16⟩
  | .local _ .vmem, ⟨0, _⟩ => ⟨S512x1024, .bf16⟩
  | .local _ .vmem, ⟨1, _⟩ => ⟨S1024x1536, .bf16⟩
  | .local _ .vmem, ⟨2, _⟩ => ⟨S1024x1024, .bf16⟩
  | .local _ .vmem, ⟨3, _⟩ => ⟨S512x1024, .bf16⟩
  | .local _ .vmem, ⟨4, _⟩ => ⟨S4x128x1024, .bf16⟩
  | .local _ .vmem, ⟨5, _⟩ => ⟨S4x128x1024, .bf16⟩
  | .local _ .vmem, ⟨6, _⟩ => ⟨S4x128x1024, .bf16⟩
  | .local _ .vmem, ⟨7, _⟩ => ⟨S4x128x1024, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v39 : BitVec 32 := Scalar.muli v13 c1_i32_20
  let v40 : BitVec 32 := Scalar.addi c0_i32_21 v39
  v40.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v41 : BitVec 32 := Scalar.muli v24 c1_i32_23
  let v42 : BitVec 32 := Scalar.addi c0_i32_24 v41
  v42.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v36 : BitVec 32 := Scalar.select v35 v24 v13
  let c1_i32_47 : BitVec 32 := 1#32
  let v100 : BitVec 32 := Scalar.muli v36 c1_i32_47
  let v101 : BitVec 32 := Scalar.addi c0_i32_48 v100
  v101.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v36 : BitVec 32 := Scalar.select v35 v24 v13
  let c1_i32_66 : BitVec 32 := 1#32
  let v146 : BitVec 32 := Scalar.muli v36 c1_i32_66
  let v147 : BitVec 32 := Scalar.addi c0_i32_67 v146
  v147.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v37 : BitVec 32 := Scalar.select v35 v13 v24
  let c1_i32_104 : BitVec 32 := 1#32
  let v178 : BitVec 32 := Scalar.muli v37 c1_i32_104
  let v179 : BitVec 32 := Scalar.addi c0_i32_105 v178
  v179.toNat
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v36 : BitVec 32 := Scalar.select v35 v24 v13
  let c1_i32_123 : BitVec 32 := 1#32
  let v224 : BitVec 32 := Scalar.muli v36 c1_i32_123
  let v225 : BitVec 32 := Scalar.addi c0_i32_124 v224
  v225.toNat
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v37 : BitVec 32 := Scalar.select v35 v13 v24
  let c1_i32_161 : BitVec 32 := 1#32
  let v256 : BitVec 32 := Scalar.muli v37 c1_i32_161
  let v257 : BitVec 32 := Scalar.addi c0_i32_162 v256
  v257.toNat
def k0_dev8 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v36 : BitVec 32 := Scalar.select v35 v24 v13
  let c1_i32_206 : BitVec 32 := 1#32
  let v322 : BitVec 32 := Scalar.muli v36 c1_i32_206
  let v323 : BitVec 32 := Scalar.addi c0_i32_207 v322
  v323.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v37 : BitVec 32 := Scalar.select v35 v13 v24
  let c1_i32_244 : BitVec 32 := 1#32
  let v354 : BitVec 32 := Scalar.muli v37 c1_i32_244
  let v355 : BitVec 32 := Scalar.addi c0_i32_245 v354
  v355.toNat
def k0_dev10 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32_13 : BitVec 32 := 0#32
  let v25 : BitVec 1 := Scalar.cmpi .eq c2_i32 c0_i32_13
  let c1_i32_14 : BitVec 32 := 1#32
  let v26 : BitVec 32 := Scalar.select v25 c1_i32_14 c2_i32
  let v27 : BitVec 32 := Scalar.remsi v2 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c0_i32_18 : BitVec 32 := 0#32
  let v35 : BitVec 1 := Scalar.cmpi .eq v34 c0_i32_18
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v37 : BitVec 32 := Scalar.select v35 v13 v24
  let c1_i32_308 : BitVec 32 := 1#32
  let v406 : BitVec 32 := Scalar.muli v37 c1_i32_308
  let v407 : BitVec 32 := Scalar.addi c0_i32_309 v406
  v407.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some (((Real.log 2)⁻¹ * (11863283 / 134217728) : ℝ) : EReal)
  | _ => none
-- ==== ReferenceIdeal.lean ====
abbrev S1x512x1024 : Shape := ⟨3, ![1, 512, 1024]⟩
abbrev S1024x4096 : Shape := ⟨2, ![1024, 4096]⟩
abbrev S1024x1024 : Shape := ⟨2, ![1024, 1024]⟩
abbrev S4096x1024 : Shape := ⟨2, ![4096, 1024]⟩
abbrev S1x512x4096 : Shape := ⟨3, ![1, 512, 4096]⟩
abbrev S1x512x32x128 : Shape := ⟨4, ![1, 512, 32, 128]⟩
abbrev S1x512x8x128 : Shape := ⟨4, ![1, 512, 8, 128]⟩
abbrev S1x512x8x4x128 : Shape := ⟨5, ![1, 512, 8, 4, 128]⟩
abbrev S_ : Shape := ⟨0, ![]⟩
abbrev S1x32x512x1 : Shape := ⟨4, ![1, 32, 512, 1]⟩
abbrev S1x32x512x512 : Shape := ⟨4, ![1, 32, 512, 512]⟩
abbrev S1x32x512 : Shape := ⟨3, ![1, 32, 512]⟩
abbrev S1x512x32x1 : Shape := ⟨4, ![1, 512, 32, 1]⟩
abbrev S1x32x128x512 : Shape := ⟨4, ![1, 32, 128, 512]⟩

abbrev nBuf : Space → Nat
  | .hbm => 58
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x4096, .bf16⟩
  | .hbm, ⟨2, _⟩ => ⟨S1024x1024, .bf16⟩
  | .hbm, ⟨3, _⟩ => ⟨S1024x1024, .bf16⟩
  | .hbm, ⟨4, _⟩ => ⟨S4096x1024, .bf16⟩
  | .hbm, ⟨5, _⟩ => ⟨S1x512x4096, .f32⟩
  | .hbm, ⟨6, _⟩ => ⟨S1x512x4096, .bf16⟩
  | .hbm, ⟨7, _⟩ => ⟨S1x512x32x128, .bf16⟩
  | .hbm, ⟨8, _⟩ => ⟨S1x512x1024, .f32⟩
  | .hbm, ⟨9, _⟩ => ⟨S1x512x1024, .bf16⟩
  | .hbm, ⟨10, _⟩ => ⟨S1x512x8x128, .bf16⟩
  | .hbm, ⟨11, _⟩ => ⟨S1x512x1024, .f32⟩
  | .hbm, ⟨12, _⟩ => ⟨S1x512x1024, .bf16⟩
  | .hbm, ⟨13, _⟩ => ⟨S1x512x8x128, .bf16⟩
  | .hbm, ⟨14, _⟩ => ⟨S1x512x8x4x128, .bf16⟩
  | .hbm, ⟨15, _⟩ => ⟨S1x512x32x128, .bf16⟩
  | .hbm, ⟨16, _⟩ => ⟨S1x512x8x4x128, .bf16⟩
  | .hbm, ⟨17, _⟩ => ⟨S1x512x32x128, .bf16⟩
  | .hbm, ⟨18, _⟩ => ⟨S_, .f32⟩
  | .hbm, ⟨19, _⟩ => ⟨S1x512x32x128, .f32⟩
  | .hbm, ⟨20, _⟩ => ⟨S_, .f32⟩
  | .hbm, ⟨21, _⟩ => ⟨S1x32x512x1, .f32⟩
  | .hbm, ⟨22, _⟩ => ⟨S_, .f32⟩
  | .hbm, ⟨23, _⟩ => ⟨S1x32x512x1, .f32⟩
  | .hbm, ⟨24, _⟩ => ⟨S1x32x512x512, .f32⟩
  | .hbm, ⟨25, _⟩ => ⟨S1x32x512x512, .bf16⟩
  | .hbm, ⟨26, _⟩ => ⟨S1x32x512x512, .f32⟩
  | .hbm, ⟨27, _⟩ => ⟨S_, .f32⟩
  | .hbm, ⟨28, _⟩ => ⟨S1x32x512x512, .f32⟩
  | .hbm, ⟨29, _⟩ => ⟨S1x32x512x512, .f32⟩
  | .hbm, ⟨30, _⟩ => ⟨S_, .f32⟩
  | .hbm, ⟨31, _⟩ => ⟨S1x32x512, .f32⟩
  | .hbm, ⟨32, _⟩ => ⟨S1x32x512x1, .f32⟩
  | .hbm, ⟨33, _⟩ => ⟨S1x32x512x1, .f32⟩
  | .hbm, ⟨34, _⟩ => ⟨S1x32x512x1, .f32⟩
  | .hbm, ⟨35, _⟩ => ⟨S1x32x512x1, .f32⟩
  | .hbm, ⟨36, _⟩ => ⟨S1x32x512x512, .f32⟩
  | .hbm, ⟨37, _⟩ => ⟨S1x32x512x512, .f32⟩
  | .hbm, ⟨38, _⟩ => ⟨S1x32x512x512, .f32⟩
  | .hbm, ⟨39, _⟩ => ⟨S1x32x512x1, .f32⟩
  | .hbm, ⟨40, _⟩ => ⟨S_, .f32⟩
  | .hbm, ⟨41, _⟩ => ⟨S1x32x512, .f32⟩
  | .hbm, ⟨42, _⟩ => ⟨S1x32x512x1, .f32⟩
  | .hbm, ⟨43, _⟩ => ⟨S1x32x512x1, .f32⟩
  | .hbm, ⟨44, _⟩ => ⟨S1x512x32x1, .f32⟩
  | .hbm, ⟨45, _⟩ => ⟨S1x512x32x128, .f32⟩
  | .hbm, ⟨46, _⟩ => ⟨S1x512x32x128, .f32⟩
  | .hbm, ⟨47, _⟩ => ⟨S1x512x32x128, .f32⟩
  | .hbm, ⟨48, _⟩ => ⟨S1x32x128x512, .f32⟩
  | .hbm, ⟨49, _⟩ => ⟨S1x512x32x128, .f32⟩
  | .hbm, ⟨50, _⟩ => ⟨S1x512x32x128, .f32⟩
  | .hbm, ⟨51, _⟩ => ⟨S1x512x32x1, .f32⟩
  | .hbm, ⟨52, _⟩ => ⟨S1x512x32x128, .f32⟩
  | .hbm, ⟨53, _⟩ => ⟨S1x512x32x128, .f32⟩
  | .hbm, ⟨54, _⟩ => ⟨S1x512x4096, .f32⟩
  | .hbm, ⟨55, _⟩ => ⟨S4096x1024, .f32⟩
  | .hbm, ⟨56, _⟩ => ⟨S1x512x1024, .f32⟩
  | .hbm, ⟨57, _⟩ => ⟨S1x512x1024, .bf16⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.Ideal.Proto.lean ====
/-
  The protocol of the kernel of `KernelIdeal`, on four devices.

  Device `c` has two partners: `p1 c` (0 with 1, 2 with 3) and `p2 c` (0 with 3, 1 with 2); both maps are involutions.
  Block `b` of the rows (128 rows, b < 4) goes through two exchanges:
  * exchange 1: `c` copies its block `Y c b` (slot `b` of scratch buffer 0) into slot `b` of buffer 2 of `p1 c`;
    the sums `P c b = Y c b + Y (p1 c) b` go to slot `b` of buffer 1;
  * exchange 2: `c` copies `P c b` into slot `b` of buffer 3 of `p2 c`; `P c b + P (p2 c) b` is the block of the result.

  Cells of device `c`, one round each:
  * the barrier cell: two duties of one unit. `true` is paid by `p1 c` and hands over the four slots of buffer 2 of `p1 c`
    with the fact that the four cells (1, b) of `p1 c` are open; `false` is paid by `p2 c`, with its buffer 3 and cells (3, b).
  * cell (0, b), the departure of exchange 1: paid by `c`'s own copy, hands slot `b` of buffer 0 back;
  * cell (1, b), the arrival of exchange 1: paid by the copy of `p1 c`, hands slot `b` of buffer 2 over, holding `Y (p1 c) b`;
  * cells (2, b) and (3, b): the same for exchange 2, with buffers 1 and 3 and the contents `P c b` and `P (p2 c) b`.

  `Y` is a parameter here: nothing in the protocol depends on what a block is.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Rounds.Family
public import Idealize.ShloMosaic.Lib.Memref
public import Idealize.ShloMosaic.Lib.Pipeline.RegionTalk
public import Idealize.ShloMosaic.Lib.Pipeline.Regions
public import Idealize.ShloMosaic.Lib.Pipeline.Kit
public import Idealize.ShloMosaic.Lib.Quiescent
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: rounds of the staging and rounds of the kernel. -/
abbrev UU : Type := URounds (GSem nD τ sig) Unit × URounds (GSem nD τ sig) Bool

local notation "𝕄" => MT nD τ sig Unit (Elt F) ℕ UU ℕ

/-- The staging's part of the ghost state. -/
abbrev EP : Emb (URounds (GSem nD τ sig) Unit) (MT nD τ sig Unit (Elt F) ℕ UU ℕ) := embL
/-- The kernel's part of the ghost state. -/
abbrev ER : Emb (URounds (GSem nD τ sig) Bool) (MT nD τ sig Unit (Elt F) ℕ UU ℕ) := embR

/-! ## The partners -/

/-- The partner of exchange 1. -/
def p1 (c : Dev nD) : Dev nD := (![1, 0, 3, 2] : Fin 4 → Fin 4) c
/-- The partner of exchange 2. -/
def p2 (c : Dev nD) : Dev nD := (![3, 2, 1, 0] : Fin 4 → Fin 4) c
/-- The first partner's first partner is the device. -/
theorem p1_p1 (c : Dev nD) : p1 (p1 c) = c := by revert c; decide
/-- The second partner's second partner is the device. -/
theorem p2_p2 (c : Dev nD) : p2 (p2 c) = c := by revert c; decide
/-- The partners as permutations of the devices. -/
def e1 : Dev nD ≃ Dev nD := ⟨p1, p1, p1_p1, p1_p1⟩
/-- The second partner as a permutation of the devices. -/
def e2 : Dev nD ≃ Dev nD := ⟨p2, p2, p2_p2, p2_p2⟩

/-- The device that the first exchange names is the first partner. -/
theorem dev3_eq (c : Dev nD) : (⟨k0_dev3 c, k0_dev3_lt c⟩ : Dev nD) = p1 c := by revert c; decide +kernel
/-- The same, at the second block. -/
theorem dev4_eq (c : Dev nD) : (⟨k0_dev4 c, k0_dev4_lt c⟩ : Dev nD) = p1 c := by revert c; decide +kernel
/-- The same, at the third block. -/
theorem dev6_eq (c : Dev nD) : (⟨k0_dev6 c, k0_dev6_lt c⟩ : Dev nD) = p1 c := by revert c; decide +kernel
/-- The same, at the fourth block. -/
theorem dev8_eq (c : Dev nD) : (⟨k0_dev8 c, k0_dev8_lt c⟩ : Dev nD) = p1 c := by revert c; decide +kernel
/-- The device that the second exchange names is the second partner. -/
theorem dev5_eq (c : Dev nD) : (⟨k0_dev5 c, k0_dev5_lt c⟩ : Dev nD) = p2 c := by revert c; decide +kernel
/-- The same, at the second block. -/
theorem dev7_eq (c : Dev nD) : (⟨k0_dev7 c, k0_dev7_lt c⟩ : Dev nD) = p2 c := by revert c; decide +kernel
/-- The same, at the third block. -/
theorem dev9_eq (c : Dev nD) : (⟨k0_dev9 c, k0_dev9_lt c⟩ : Dev nD) = p2 c := by revert c; decide +kernel
/-- The same, at the fourth block. -/
theorem dev10_eq (c : Dev nD) : (⟨k0_dev10 c, k0_dev10_lt c⟩ : Dev nD) = p2 c := by revert c; decide +kernel
/-- The two signals go to the two partners, in an order that depends on the device. -/
theorem dev12_eq (c : Dev nD) :
    ((⟨k0_dev1 c, k0_dev1_lt c⟩ : Dev nD) = p1 c ∧ (⟨k0_dev2 c, k0_dev2_lt c⟩ : Dev nD) = p2 c)
    ∨ ((⟨k0_dev1 c, k0_dev1_lt c⟩ : Dev nD) = p2 c ∧ (⟨k0_dev2 c, k0_dev2_lt c⟩ : Dev nD) = p1 c) := by revert c; decide +kernel

/-! ## Cells -/

/-- The semaphores the kernel uses: the barrier (`none`) and the DMA semaphores (j, b), j the role, b the block. -/
abbrev CI : Type := Option (Fin 4 × Fin 4)

/-- The barrier semaphore. -/
abbrev barS : Sem sig := (SemArray.scalar (sig.barrier 0 rfl) : Sems sig S_).sem

/-- DMA semaphore `(j, b)`. -/
def dS (j b : Fin 4) : DmaSem sig := ⟨4 + 4 * j.val + b.val, by have := j.isLt; have := b.isLt; show _ < 20; omega⟩

/-- A semaphore lies inside its array. -/
theorem inb4 (b : Fin 4) : ∀ a, (![b.val] : Fin 1 → Nat) a + S1.size a ≤ S4.size a := by revert b; decide

/-- The send semaphore of the first exchange, by block. -/
theorem sem0 (b : Fin 4) : ((cc0_scratch4.slice (Rect.unit (s := S4) ![b.val] S1.size (inb4 b))).squeeze S_ squeezes_S1_S_).sem = dS 0 b := by
  revert b; decide +kernel
/-- The receive semaphore of the first exchange, by block. -/
theorem sem1 (b : Fin 4) : ((cc0_scratch5.slice (Rect.unit (s := S4) ![b.val] S1.size (inb4 b))).squeeze S_ squeezes_S1_S_).sem = dS 1 b := by
  revert b; decide +kernel
/-- The send semaphore of the second exchange, by block. -/
theorem sem2 (b : Fin 4) : ((cc0_scratch6.slice (Rect.unit (s := S4) ![b.val] S1.size (inb4 b))).squeeze S_ squeezes_S1_S_).sem = dS 2 b := by
  revert b; decide +kernel
/-- The receive semaphore of the second exchange, by block. -/
theorem sem3 (b : Fin 4) : ((cc0_scratch7.slice (Rect.unit (s := S4) ![b.val] S1.size (inb4 b))).squeeze S_ squeezes_S1_S_).sem = dS 3 b := by
  revert b; decide +kernel

/-- The semaphore of an index. -/
abbrev sl : CI → SemLoc sig
  | none => .reg barS
  | some (j, b) => .dma (dS j b)

/-- The cell of a device and an index. -/
abbrev kcell (c : Dev nD) (i : CI) : GSem nD τ sig := ((c : Thread nD τ), sl i)

/-- The role and the block of a DMA semaphore. -/
def kind (s : DmaSem sig) : ℕ := (s.val - 4) / 4
/-- The block of a copy semaphore. -/
def blk (s : DmaSem sig) : Fin 4 := ⟨(s.val - 4) % 4, Nat.mod_lt _ (by decide)⟩
/-- A named copy semaphore's role. -/
theorem kind_dS (j b : Fin 4) : kind (dS j b) = j.val := by revert j b; decide
/-- A named copy semaphore's block. -/
theorem blk_dS (j b : Fin 4) : blk (dS j b) = b := by revert j b; decide
/-- The copy semaphores come after the four of the staging. -/
theorem four_le_dS (j b : Fin 4) : 4 ≤ (dS j b).val := by unfold dS; show 4 ≤ 4 + 4 * j.val + b.val; omega

/-! ## Slots -/

/-- The buffer of partial products. -/
abbrev yM : Memref sig .tc .vmem S4x128x1024 .bf16 := Memref.whole cc0_scratch0
/-- The buffer of partial sums. -/
abbrev psM : Memref sig .tc .vmem S4x128x1024 .bf16 := Memref.whole cc0_scratch1
/-- Where the first exchange lands. -/
abbrev r1M : Memref sig .tc .vmem S4x128x1024 .bf16 := Memref.whole cc0_scratch2
/-- Where the second exchange lands. -/
abbrev r2M : Memref sig .tc .vmem S4x128x1024 .bf16 := Memref.whole cc0_scratch3

/-- A block lies inside its buffer. -/
theorem inb (b : Fin 4) : ∀ a, (![b.val, 0, 0] : Fin 3 → Nat) a + S1x128x1024.size a ≤ S4x128x1024.size a := by revert b; decide

/-- The rectangle of slot `b`. -/
abbrev rB (b : Fin 4) : Rect S4x128x1024 := Rect.unit (s := S4x128x1024) ![b.val, 0, 0] S1x128x1024.size (inb b)

/-- Slot `b` of a buffer as the copies name it. -/
abbrev slM (m : Memref sig .tc .vmem S4x128x1024 .bf16) (b : Fin 4) : Memref sig .tc .vmem S128x1024 .bf16 :=
  (m.slice (rB b) (fun _ => rfl)).squeeze S128x1024 squeezes_S1x128x1024_S128x1024

/-- A block: what one slot holds. -/
abbrev Blk (F : FTy → Type) : Type := Vec F S1x128x1024 .bf16

/-- Device `c` holds slot `b` of buffer `m`, with contents `w`. -/
def slot (m : Memref sig .tc .vmem S4x128x1024 .bf16) (b : Fin 4) (c : Dev nD) (w : Blk F) : sProp 𝕄 :=
  iprop(∃ f, ⌜(m.access (rB b)).read (Elt F) f = w⌝ ∗ ((m.access (rB b)).loc (c : Thread nD τ) ↦[(m.access (rB b)).set]{fullShare} f))

/-- Device `c` holds slot `b` of buffer `m`, contents unknown. -/
def anySlot (m : Memref sig .tc .vmem S4x128x1024 .bf16) (b : Fin 4) (c : Dev nD) : sProp 𝕄 :=
  iprop(∃ w : Blk F, slot m b c w)

/-- A block may be kept in an invariant. -/
instance slot_storable (m : Memref sig .tc .vmem S4x128x1024 .bf16) (b : Fin 4) (c : Dev nD) (w : Blk F) :
    BI.Storable (upEmb : UEmb _ 𝕄) (slot m b c w) := by unfold slot; infer_instance
/-- A block with any contents may be kept in an invariant. -/
instance anySlot_storable (m : Memref sig .tc .vmem S4x128x1024 .bf16) (b : Fin 4) (c : Dev nD) :
    BI.Storable (upEmb : UEmb _ 𝕄) (anySlot (F := F) m b c) := by unfold anySlot; infer_instance

/-! ## The schedule -/

variable (Y : Dev nD → Fin 4 → Blk F)

/-- What exchange 1 sums. -/
def P (c : Dev nD) (b : Fin 4) : Blk F := k0_pay17 (Y c b) (Y (p1 c) b)

/-- The credit of one copy. -/
abbrev N : ℕ := (slM yM 0).view.dmaCredit
/-- The credit of a copy is positive. -/
theorem N_pos : 0 < N := View.dmaCredit_pos _ (by decide)

/-- What the barrier duty `true` hands to device `c`: the arrival buffer of exchange 1 on `p1 c`, and that its cells are open. -/
def barPay1 (c : Dev nD) : sProp 𝕄 :=
  bigSep Finset.univ fun b : Fin 4 => iprop(anySlot (F := F) r1M b (p1 c) ∗ reached ER (kcell (p1 c) (some (1, b))) 0)
/-- What the barrier duty `false` hands to device `c`: the same for exchange 2 and `p2 c`. -/
def barPay2 (c : Dev nD) : sProp 𝕄 :=
  bigSep Finset.univ fun b : Fin 4 => iprop(anySlot (F := F) r2M b (p2 c) ∗ reached ER (kcell (p2 c) (some (3, b))) 0)

/-- What the DMA cell of role `j` and block `b` hands to its owner `c`. -/
def dmaPay (c : Dev nD) (j : ℕ) (b : Fin 4) : sProp 𝕄 :=
  match j with
  | 0 => slot yM b c (Y c b)
  | 1 => slot r1M b c (Y (p1 c) b)
  | 2 => slot psM b c (P Y c b)
  | _ => slot r2M b c (P Y (p2 c) b)

/-- The duties of a semaphore's one round. -/
def dut : SemLoc sig → Finset Bool
  | .reg s => if s = barS then Finset.univ else ∅
  | .dma s => if 4 ≤ s.val then {true} else ∅

/-- What a duty of a semaphore hands to its owner. -/
def payOf (c : Dev nD) (d : Bool) : SemLoc sig → sProp 𝕄
  | .reg _ => if d then barPay1 (F := F) c else barPay2 (F := F) c
  | .dma s => dmaPay Y c (kind s) (blk s)

/-- The units of a duty of a semaphore. -/
def amt : SemLoc sig → ℕ
  | .reg _ => 1
  | .dma _ => N

/-- The schedule: every cell has the one round 0. -/
def Rd : Rounds.Schedule (GSem nD τ sig) Bool 𝕄 where
  duties g r := if r = 0 ∧ g.1.2 = .tc then dut g.2 else ∅
  unitless _ := False
  amount g _ _ := amt g.2
  payload g _ d := payOf Y g.1.1 d g.2
  amount_pos g _ _ _ := by
    show 0 < amt g.2
    cases g.2 with
    | reg s => exact Nat.one_pos
    | dma s => exact N_pos

/-- What a copy brings may be kept in an invariant. -/
instance dmaPay_storable (c : Dev nD) (j : ℕ) (b : Fin 4) : BI.Storable (upEmb : UEmb _ 𝕄) (dmaPay Y c j b) := by
  unfold dmaPay; split <;> infer_instance

/-- What every duty brings may be kept in an invariant. -/
instance Rd_storable (g : GSem nD τ sig) (r : ℕ) (d : Bool) :
    BI.Storable (upEmb : UEmb _ 𝕄) ((Rd Y).payload g r d) := by
  show BI.Storable upEmb (payOf Y g.1.1 d g.2)
  cases g.2 with
  | reg s => unfold payOf barPay1 barPay2; dsimp only; split <;> infer_instance
  | dma s => unfold payOf; dsimp only; infer_instance

/-- A barrier has one duty for each partner. -/
theorem duties_bar (c : Dev nD) : (Rd Y).duties (kcell c none) 0 = Finset.univ := by
  dsimp only [Rd]; rw [if_pos ⟨rfl, rfl⟩]; unfold dut; exact if_pos rfl
/-- A copy cell has one duty. -/
theorem duties_dma (c : Dev nD) (j b : Fin 4) : (Rd Y).duties (kcell c (some (j, b))) 0 = {true} := by
  dsimp only [Rd]; rw [if_pos ⟨rfl, rfl⟩]; unfold dut; exact if_pos (four_le_dS j b)
/-- There is one round only. -/
theorem duties_later (g : GSem nD τ sig) : ∀ r, 1 ≤ r → (Rd Y).duties g r = ∅ :=
  fun r hr => by dsimp only [Rd]; rw [if_neg (fun h => by omega)]
/-- A barrier signal is one. -/
theorem amount_bar (c : Dev nD) (d : Bool) : (Rd Y).amount (kcell c none) 0 d = 1 := rfl
/-- A copy's credit is one block's. -/
theorem amount_dma (c : Dev nD) (j b : Fin 4) (d : Bool) : (Rd Y).amount (kcell c (some (j, b))) 0 d = N := rfl
/-- A barrier expects two signals. -/
theorem expect_bar (c : Dev nD) : (Rd Y).expect (kcell c none) 0 = 2 := by
  unfold Schedule.expect Schedule.amountOf; rw [duties_bar]; rfl
/-- A copy cell expects one block. -/
theorem expect_dma (c : Dev nD) (j b : Fin 4) : (Rd Y).expect (kcell c (some (j, b))) 0 = N := by
  unfold Schedule.expect Schedule.amountOf; rw [duties_dma, Finset.sum_singleton, amount_dma]
/-- What a copy brings. -/
theorem payload_dma (c : Dev nD) (j b : Fin 4) (d : Bool) : (Rd Y).payload (kcell c (some (j, b))) 0 d = dmaPay Y c j.val b := by
  dsimp only [Rd, kcell, sl, payOf]; rw [kind_dS, blk_dS]
/-- What a barrier signal brings. -/
theorem payload_bar (c : Dev nD) (d : Bool) : (Rd Y).payload (kcell c none) 0 d = if d then barPay1 (F := F) c else barPay2 (F := F) c := rfl
/-- All that a barrier's duties bring: both partners' landing places. -/
theorem rest_bar (c : Dev nD) :
    bigSep ((Rd Y).duties (kcell c none) 0 \ ∅) (fun u => (Rd Y).payload (kcell c none) 0 u) = iprop(barPay1 (F := F) c ∗ barPay2 (F := F) c) := by
  rw [Finset.sdiff_empty, duties_bar, show (Finset.univ : Finset Bool) = {true, false} from by decide, bigSep_insert (by decide), bigSep_singleton]
  rfl
/-- All that a copy cell's duties bring is what its copy brings. -/
theorem rest_dma (c : Dev nD) (j b : Fin 4) :
    bigSep ((Rd Y).duties (kcell c (some (j, b))) 0 \ ∅) (fun u => (Rd Y).payload (kcell c (some (j, b))) 0 u) = dmaPay Y c j.val b := by
  rw [Finset.sdiff_empty, duties_dma, bigSep_singleton, payload_dma]

/-! ## What a device owes; the levels -/

/-- The eight copies a device makes, in the order it starts them: the role of the arrival cell it credits, and the block. -/
def order : List (Fin 4 × Fin 4) := [(1, 0), (1, 1), (3, 0), (1, 2), (3, 1), (1, 3), (3, 2), (3, 3)]

/-- The device that the copy of role `j` goes to. -/
def dest (j : Fin 4) (c : Dev nD) : Dev nD := if j = 1 then p1 c else p2 c

/-- The credits of a list of copies. -/
def owe (c : Dev nD) : List (Fin 4 × Fin 4) → CellTallies nD τ sig Unit
  | [] => 0
  | x :: l => owe c l + tallyAt (kcell (dest x.1 c) (some x)) () N

/-- What a device owes at launch: a unit to the barrier cell of each partner and the eight copies. -/
def O₀ (c : Dev nD) : CellTallies nD τ sig Unit :=
  owe c order + tallyAt (kcell (p1 c) none) () 1 + tallyAt (kcell (p2 c) none) () 1

/-- The cells that carry a level: those of the tensor cores. -/
def L (g : GSem nD τ sig) : Finset Unit := if g.1.2 = .tc then {()} else ∅

/-- The level of a semaphore: the barrier 1, the arrival cells from 2 on in the order of their copies, all others 0. -/
def lvS : SemLoc sig → ℕ
  | .reg _ => 1
  | .dma s => if kind s = 1 ∨ kind s = 3 then 2 + order.idxOf (⟨kind s % 4, Nat.mod_lt _ (by decide)⟩, blk s) else 0
/-- A cell's level. -/
def lv (g : GSem nD τ sig) (_ : Unit) : ℕ := lvS g.2

/-- Every cell of a tensor core carries a level. -/
theorem L_tc (c : Dev nD) (sm : SemLoc sig) : L ((c : Thread nD τ), sm) = {()} := if_pos rfl
/-- No other cell carries a level. -/
theorem L_of_ne (g : GSem nD τ sig) (h : g.1.2 ≠ .tc) : L g = ∅ := if_neg h

/-- A tally at one cell is positive only there. -/
theorem tally_pos {g h : GSem nD τ sig} {u i : Unit} {n : ℕ} (hp : 0 < tallyAt g u n h i) : h = g := by
  rw [tallyAt_apply] at hp
  split at hp
  · next hg => exact hg.1
  · exact absurd hp (Nat.lt_irrefl 0)

/-- A cell with a credit in `owe c l` is that of a copy of `l`. -/
theorem owe_pos (c : Dev nD) (l : List (Fin 4 × Fin 4)) {g : GSem nD τ sig} {u : Unit} (h : 0 < owe c l g u) :
    ∃ x ∈ l, g = kcell (dest x.1 c) (some x) := by
  induction l with
  | nil => exact absurd h (Nat.lt_irrefl 0)
  | cons x l ih =>
    rw [owe, Pi.add_apply, Finsupp.add_apply] at h
    rcases Nat.add_pos_iff_pos_or_pos.mp h with h | h
    · obtain ⟨y, hy, e⟩ := ih h; exact ⟨y, List.mem_cons_of_mem _ hy, e⟩
    · exact ⟨x, List.mem_cons_self, tally_pos h⟩

/-- A device may wait on its cell `i` while it owes the copies `l`, all of them above `i`. -/
theorem mayWait (c : Dev nD) (i : CI) (l : List (Fin 4 × Fin 4)) (h : ∀ x ∈ l, lvS (sl i) < lvS (sl (some x))) :
    (levAts L lv : sProp 𝕄) ⊢ MayWait (c : Thread nD τ) (sl i) () (owe c l) :=
  MayOwe.of_cut (L := L) (lev := lv) (lvS (sl i))
    (fun p hp => by rw [Finset.mem_singleton.mp hp, L_tc]; exact Finset.mem_singleton_self _)
    (fun g u hg => by
      obtain ⟨x, _, rfl⟩ := owe_pos c l hg
      rw [L_tc]; exact Finset.mem_singleton_self _)
    (fun p hp => by rw [Finset.mem_singleton.mp hp]; exact le_refl _)
    (fun g u hg => by
      obtain ⟨x, hx, rfl⟩ := owe_pos c l hg
      exact h x hx)

/-- The cells of the exchanges lie above the staging ones. -/
theorem order_pos : ∀ x ∈ order, 0 < lvS (sl (some x)) := by decide

/-- Everything owed at launch is above level 0. -/
theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨x, hx, rfl⟩ := owe_pos c order h
      exact ⟨by rw [L_tc]; exact Finset.mem_singleton_self _, order_pos x hx⟩
    · obtain rfl := tally_pos h
      exact ⟨by rw [L_tc]; exact Finset.mem_singleton_self _, Nat.one_pos⟩
  · obtain rfl := tally_pos h
    exact ⟨by rw [L_tc]; exact Finset.mem_singleton_self _, Nat.one_pos⟩

end Cert.KernelIdeal.Run

end
-- ==== Proof.Ideal.Steps.lean ====
/-
  One lemma per kind of step of the kernel: a load and a store of a slot, a signal, the barrier wait, a copy, the wait on
  a DMA cell. Each is stated once, for every device, block, buffer and continuation.
-/
module

public import proofs.«01_k».proof.Proof.Ideal.Proto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- No call is named beyond the ones of the program. -/
abbrev 𝒱₀ : Variants := .none

/-- The program `e` of device `c`, from here on, ends in `Q`. -/
abbrev goes {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- What device `c` still owes, whatever it has waited on so far. -/
def owing (c : Dev nD) (O : CellTallies nD τ sig Unit) : sProp 𝕄 := iprop(∃ W, owes (c : Thread nD τ) O W)

variable (Y : Dev nD → Fin 4 → Blk F)
variable {α : Type} {Kt : α → sProp (MT nD τ sig Unit (Elt F) ℕ UU ℕ)}

/-- Loading through a rectangle of a buffer that is held there gives the contents. -/
theorem load_own {s : Shape} {e : EltTy} (m : Memref sig .tc .vmem s e) (r : Rect s) (hr : ∀ a, r.stride a = 1) (c : Dev nD) (w : r.shape.Idx → Elt F e)
    {hl : m.view.LoadsAt r.toLoadRect} {k : (r.shape.Idx → Elt F e) → Prog (TpuEff nD τ sig (Elt F) Λ₀ .tc) α} :
    (owns (c : Thread nD τ) (m.slice r hr) fullShare w : sProp (MT nD τ sig Unit (Elt F) ℕ UU ℕ))
      ⊢ iprop((owns (c : Thread nD τ) (m.slice r hr) fullShare w -∗ goes c (k w) Kt) -∗ goes c (.op (.load m r.toLoadRect hl) k) Kt) := by
  unfold owns
  iintro ⟨%f, %hf, H⟩ Hk
  subst hf
  iapply (wp_load_rect 𝒱₀ (c : Thread nD τ) none Set.univ (m := m) (r := r) subset_rfl) $$ H
  iintro H
  iapply Hk
  iexists f
  isplitr; · ipureintro; rfl
  iexact H

/-- Storing through a rectangle of a buffer that is held there leaves it holding what is stored. -/
theorem store_own {s : Shape} {e : EltTy} (m : Memref sig .tc .vmem s e) (r : Rect s) (hr : ∀ a, r.stride a = 1) (c : Dev nD) (w₀ w : r.shape.Idx → Elt F e)
    {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) (m.slice r hr) fullShare w₀ : sProp (MT nD τ sig Unit (Elt F) ℕ UU ℕ))
      ⊢ iprop((owns (c : Thread nD τ) (m.slice r hr) fullShare w -∗ goes c (k ⟨⟩) Kt) -∗ goes c (.op (.store m r w Finset.univ hx hm) k) Kt) := by
  unfold owns
  iintro ⟨%f, %hf, H⟩ Hk
  iapply (wp_store 𝒱₀ (c : Thread nD τ) none Set.univ (m := m) (r := r) (Mk := Finset.univ) (S := (m.access r).set) (by rw [View.setOn_univ])) $$ H
  iintro H
  iapply Hk
  iexists (m.access r).write (Elt F) f w Finset.univ
  isplitr; · ipureintro; exact View.read_write_univ _ _
  iexact H

/-- Loading a buffer through the rectangle of all its elements gives its contents. -/
theorem load_win {s : Shape} {e : EltTy} (m : Memref sig .tc .vmem s e) {off : Fin s.rank → ℕ} (h0 : off = fun _ => 0)
    (inb : ∀ a, off a + s.size a ≤ s.size a) (c : Dev nD) (X : s.Idx → Elt F e)
    {hl : m.view.LoadsAt (Rect.unit (s := s) off s.size inb).toLoadRect} {k : (s.Idx → Elt F e) → Prog (TpuEff nD τ sig (Elt F) Λ₀ .tc) α} :
    (owns (c : Thread nD τ) m fullShare X : sProp (MT nD τ sig Unit (Elt F) ℕ UU ℕ))
      ⊢ iprop((owns (c : Thread nD τ) m fullShare X -∗ goes c (k X) Kt) -∗ goes c (.op (.load m (Rect.unit (s := s) off s.size inb).toLoadRect hl) k) Kt) := by
  unfold owns
  iintro ⟨%f, %hf, H⟩ Hk
  subst hf
  iapply (wp_load 𝒱₀ (c : Thread nD τ) none Set.univ (m := m) (S := m.view.set) (Finset.map_subset_map.mpr (Finset.subset_univ _))) $$ H
  iintro H
  have e : m.view.readAt (Elt F) (Rect.unit (s := s) off s.size inb).toLoadRect f = m.view.read (Elt F) f := by
    subst h0
    funext j
    show m.view.read (Elt F) f _ = m.view.read (Elt F) f j
    congr 1
    funext a
    exact Fin.ext (by simp [Rect.unit, Rect.toLoadRect])
  rw [e]
  iapply Hk
  iexists f
  isplitr; · ipureintro; rfl
  iexact H

/-- Loading a slot gives its contents. -/
theorem load_slot (m : Memref sig .tc .vmem S4x128x1024 .bf16) (b : Fin 4) (c : Dev nD) (w : Blk F)
    {hl : m.view.LoadsAt (rB b).toLoadRect} {k : Blk F → Prog (TpuEff nD τ sig (Elt F) Λ₀ .tc) α} :
    slot m b c w ⊢ iprop((slot m b c w -∗ goes c (k w) Kt) -∗ goes c (.op (.load m (rB b).toLoadRect hl) k) Kt) :=
  load_own m (rB b) (fun _ => rfl) c w

/-- Storing a block leaves the slot holding it. -/
theorem store_slot (m : Memref sig .tc .vmem S4x128x1024 .bf16) (b : Fin 4) (c : Dev nD) (w₀ w : Blk F)
    {hx : (m.access (rB b)).Stores Finset.univ} {hm : (Finset.univ : Finset (rB b).shape.Idx) = Finset.univ ∨ ∀ a, (rB b).stride a = 1}
    {k : PUnit → Prog (TpuEff nD τ sig (Elt F) Λ₀ .tc) α} :
    slot m b c w₀ ⊢ iprop((slot m b c w -∗ goes c (k ⟨⟩) Kt) -∗ goes c (.op (.store m (rB b) w Finset.univ hx hm) k) Kt) :=
  store_own m (rB b) (fun _ => rfl) c w₀ w

/-- What a copy from slot `b` of `ms` to slot `b` of `md` writes, in the words of loads and stores. -/
theorem sq_write (ms md : Memref sig .tc .vmem S4x128x1024 .bf16) (b : Fin 4) (fs : ms.view.ty.Contents (Elt F)) (fd : md.view.ty.Contents (Elt F)) :
    (slM md b).view.write (Elt F) fd ((slM ms b).view.read (Elt F) fs) Finset.univ
      = (md.access (rB b)).write (Elt F) fd ((ms.access (rB b)).read (Elt F) fs) Finset.univ := by
  refine (View.write_reshape_univ (v := md.access (rB b)) _ fd _).trans ?_
  congr 1
  funext x
  show (ms.access (rB b)).read (Elt F) fs (Shape.reshapeEquiv _ ((Shape.reshapeEquiv _).symm x)) = _
  rw [Equiv.apply_symm_apply]

/-- A block as a copy names it covers what a load names it. -/
theorem sq_set (m : Memref sig .tc .vmem S4x128x1024 .bf16) (b : Fin 4) : (slM m b).view.set = (m.access (rB b)).set :=
  View.set_reshape _ _

/-- A copy of slot `b` of `ms` on `c` to slot `b` of `md` on `n`, onto the cells (j, b) of `c` and (i, b) of `n`: the source
    slot goes into the departure cell, the destination slot with the source's contents into the arrival cell. -/
theorem send_step (ms md : Memref sig .tc .vmem S4x128x1024 .bf16) (b j i : Fin 4) (c n n' : Dev nD) (hn : n' = n) (w : Blk F)
    (l : List (Fin 4 × Fin 4)) (κ₁ κ₂ : ℕ) (hd : dest i c = n)
    {s₁ s₂ : DmaSem sig} (hs₁ : s₁ = dS j b) (hs₂ : s₂ = dS i b)
    (hN : (slM md b).view.dmaCredit = N) (hp₁ : dmaPay Y c j.val b = slot ms b c w) (hp₂ : dmaPay Y n i.val b = slot md b n w)
    {hsc : (slM md b : Memref sig (Dev.tc n' : Thread nD τ).2.kind .vmem S128x1024 .bf16).view.ref.isScScratch = false}
    {hsrc : (slM ms b).view.WordExact} {hdst : (slM md b : Memref sig (Dev.tc n' : Thread nD τ).2.kind .vmem S128x1024 .bf16).view.WordExact}
    {hsem : DmaTarget.Typed .vmem (.dma s₂) (.remote (Dev.tc n' : Thread nD τ) (slM md b : Memref sig (Dev.tc n' : Thread nD τ).2.kind .vmem S128x1024 .bf16) (.dma s₁) hsc)}
    {k : PUnit → Prog (TpuEff nD τ sig (Elt F) Λ₀ .tc) α} :
    iprop(cellInv ER (Rd Y) κ₁ (kcell c (some (j, b))) ∗ cellInv ER (Rd Y) κ₂ (kcell n (some (i, b)))
        ∗ slot ms b c w ∗ anySlot (F := F) md b n ∗ owing c (owe c ((i, b) :: l))
        ∗ dutyTok ER (kcell c (some (j, b))) 0 true ∗ reached ER (kcell c (some (j, b))) 0
        ∗ dutyTok ER (kcell n (some (i, b))) 0 true ∗ reached ER (kcell n (some (i, b))) 0)
      ⊢ iprop(((cred (tallyAt (kcell c (some (j, b))) () N) ∗ owing c (owe c l)) -∗ goes c (k ⟨⟩) Kt)
          -∗ goes c (.op (.enqueueDma (slM ms b) (.remote (Dev.tc n' : Thread nD τ) (slM md b) (.dma s₁) hsc) (.dma s₂) hsrc hdst hsem) k) Kt) := by
  subst hn hs₁ hs₂ hd
  unfold slot anySlot slot owing
  iintro ⟨#H1, #H2, ⟨%fs, %hfs, Hs⟩, ⟨%w', %fd, %hfd, Hd⟩, ⟨%W, HO⟩, Ht1, #Hr1, Ht2, #Hr2⟩ Hk
  subst hfs
  have hpay₁ : ((slM ms b).view.loc (c : Thread nD τ) ↦[(slM ms b).view.set]{fullShare} fs) ⊢ (Rd Y).payload (kcell c (some (j, b))) 0 true := by
    rw [payload_dma, hp₁]
    unfold slot; iintro H; iexists fs; isplitr; · ipureintro; rfl
    rw [sq_set]; iexact H
  have hpay₂ : ((slM md b).view.loc (Dev.tc (dest i c) : Thread nD τ) ↦[(slM md b).view.set]{fullShare}
      ((slM md b).view.write (Elt F) fd ((slM ms b).view.read (Elt F) fs) Finset.univ)) ⊢ (Rd Y).payload (kcell (dest i c) (some (i, b))) 0 true := by
    rw [payload_dma, hp₂]
    unfold slot; iintro H; iexists (md.access (rB b)).write (Elt F) fd ((ms.access (rB b)).read (Elt F) fs) Finset.univ
    isplitr; · ipureintro; exact View.read_write_univ _ _
    rw [sq_write, sq_set]; iexact H
  iapply (Rounds.wp_send_pointsTo 𝒱₀ ER (Rd Y) (c : Thread nD τ) none (κ₁ := κ₁) (κ₂ := κ₂) (r₁ := 0) (r₂ := 0) (d₁ := true) (d₂ := true) (fs := fs) (fd := fd)
    (c' := (Dev.tc (dest i c) : Thread nD τ)) (src := slM ms b) (dst := slM md b) (sS := .dma (dS j b)) (sem := .dma (dS i b)) (q := fullShare)
    (hsc := hsc) (hsrc := hsrc) (hdst := hdst) (hsem := hsem)
    (by rw [duties_dma Y c j b]; exact Finset.mem_singleton_self _)
    (by rw [duties_dma Y (dest i c) i b]; exact Finset.mem_singleton_self _)
    () () N hN rfl rfl (owe c l) (O₀ := owe c ((i, b) :: l)) rfl (W := W) hpay₁ hpay₂) $$ [Hs Hd HO Ht1 Ht2]
  · isplitr; · iexact H1
    isplitr; · iexact H2
    isplitl [Hs]; · rw [sq_set]; iexact Hs
    isplitl [Hd]; · rw [sq_set]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait on the DMA cell (j, b) hands over what was paid into it; the copies `l` still owed are above it. -/
theorem wait_step (b j : Fin 4) (c : Dev nD) (l : List (Fin 4 × Fin 4)) (κ : ℕ) (hl : ∀ x ∈ l, lvS (sl (some (j, b))) < lvS (sl (some x)))
    {s : DmaSem sig} (hs : s = dS j b) {src dst : Memref sig .tc .vmem S128x1024 .bf16} (hN : dst.view.dmaCredit = N)
    {hsrc : src.view.WordExact} {hdst : dst.view.WordExact} {k : PUnit → Prog (TpuEff nD τ sig (Elt F) Λ₀ .tc) α} :
    iprop(cellInv ER (Rd Y) κ (kcell c (some (j, b))) ∗ cred (tallyAt (kcell c (some (j, b))) () N) ∗ owing c (owe c l)
        ∗ levAts L lv ∗ atPos ER (kcell c (some (j, b))) 0 ∅ 0)
      ⊢ iprop(((owing c (owe c l) ∗ atPos ER (kcell c (some (j, b))) 1 ∅ 0 ∗ dmaPay Y c j.val b) -∗ goes c (k ⟨⟩) Kt)
          -∗ goes c (.op (.waitDma2 s src dst hsrc hdst) k) Kt) := by
  subst hs
  unfold owing
  iintro ⟨#HI, Hc, ⟨%W, HO⟩, #Hlev, Hat⟩ Hk
  iapply (Rounds.wp_wait_rest_token 𝒱₀ ER (Rd Y) (c : Thread nD τ) none (κ := κ)
      (wpE_waitDma2_eq 𝒱₀ (c : Thread nD τ) none Set.univ (sem := dS j b) (src := src) (dst := dst) (hsrc := hsrc) (hdst := hdst)) (Set.mem_univ _) ()
      (O := owe c l) (W := W) (R := 0) (m := 0) (T := ∅)
      (by rw [Nat.zero_add, hN]; exact (expect_dma Y c j b).symm)) $$ [Hc HO Hat]
  · isplitr; · iexact HI
    isplitl [Hc]; · rw [hN]; iexact Hc
    isplitl [HO]; · iexact HO
    isplitr; · iapply (mayWait c (some (j, b)) l hl); iexact Hlev
    iexact Hat
  iintro ⟨HO, Hat, -, Hpay⟩
  ihave Hp := (Entails.of_eq (rest_dma Y c j b)) $$ Hpay
  iapply Hk
  isplitl [HO]; · iexists _; iexact HO
  isplitl [Hat]; · iexact Hat
  iexact Hp

/-- A signal of one unit to the barrier cell of `n` pays its duty `d`. -/
theorem signal_step (c n n' : Dev nD) (hn : n' = n) (d : Bool) (O : CellTallies nD τ sig Unit) (O' : CellTallies nD τ sig Unit)
    (hO : O' = O + tallyAt (kcell n none) () 1) (κ : ℕ) {k : PUnit → Prog (TpuEff nD τ sig (Elt F) Λ₀ .tc) α} {z : ℤ} (hz : z = ((1 : ℕ) : ℤ)) :
    iprop(cellInv ER (Rd Y) κ (kcell n none) ∗ owing c O' ∗ dutyTok ER (kcell n none) 0 d ∗ (Rd Y).payload (kcell n none) 0 d ∗ reached ER (kcell n none) 0)
      ⊢ iprop((owing c O -∗ goes c (k ⟨⟩) Kt) -∗ goes c (.op (.semSignal (Dev.tc n' : Thread nD τ) barS z) k) Kt) := by
  subst hn hz
  unfold owing
  iintro ⟨#HI, ⟨%W, HO⟩, Ht, Hp, #Hr⟩ Hk
  iapply (Rounds.wp_signal 𝒱₀ ER (Rd Y) (c : Thread nD τ) none (dst := (n' : Thread nD τ)) (sem := barS) (r := 0) (d := d) (κ := κ) (k' := 1)
      (by rw [show ((n' : Thread nD τ), SemLoc.reg barS) = kcell n' none from rfl, duties_bar]; exact Finset.mem_univ _) rfl () O hO (W := W)) $$ [HO Ht Hp]
  · isplitr; · iexact HI
    isplitl [HO]; · iexact HO
    isplitl [Ht]; · iexact Ht
    isplitl [Hp]; · iexact Hp
    iexact Hr
  iintro HO
  iapply Hk
  iexists W; iexact HO

/-- The barrier wait hands over the arrival buffers of the two partners. -/
theorem bar_step (c : Dev nD) (κ : ℕ) {k : PUnit → Prog (TpuEff nD τ sig (Elt F) Λ₀ .tc) α} {z : ℤ} (hz : z = 2) :
    iprop(cellInv ER (Rd Y) κ (kcell c none) ∗ cred (tallyAt (kcell c none) () 2) ∗ owing c (owe c order) ∗ levAts L lv ∗ atPos ER (kcell c none) 0 ∅ 0)
      ⊢ iprop(((owing c (owe c order) ∗ atPos ER (kcell c none) 1 ∅ 0 ∗ barPay1 (F := F) c ∗ barPay2 (F := F) c) -∗ goes c (k ⟨⟩) Kt)
          -∗ goes c (.op (.semWait barS z) k) Kt) := by
  subst hz
  unfold owing
  iintro ⟨#HI, Hc, ⟨%W, HO⟩, #Hlev, Hat⟩ Hk
  iapply (Rounds.wp_wait_rest_token 𝒱₀ ER (Rd Y) (c : Thread nD τ) none (κ := κ)
      (wpE_semWait_eq 𝒱₀ (c : Thread nD τ) none Set.univ (sem := barS)) (Set.mem_univ _) ()
      (O := owe c order) (W := W) (R := 0) (m := 0) (T := ∅)
      (by rw [Nat.zero_add]; exact (expect_bar Y c).symm)) $$ [Hc HO Hat]
  · isplitr; · iexact HI
    isplitl [Hc]; · iexact Hc
    isplitl [HO]; · iexact HO
    isplitr; · iapply (mayWait c none order (by decide)); iexact Hlev
    iexact Hat
  iintro ⟨HO, Hat, -, Hpay⟩
  ihave Hp := (Entails.of_eq (rest_bar Y c)) $$ Hpay
  iapply Hk
  isplitl [HO]; · iexists _; iexact HO
  isplitl [Hat]; · iexact Hat
  iexact Hp

end Cert.KernelIdeal.Run

end
-- ==== Proof.Ideal.Moves.lean ====
/-
  The steps of the kernel body in the words of a device: its copies, its waits, the exchange at the barrier.
-/
module

public import proofs.«01_k».proof.Proof.Ideal.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The contents of a device's three operands: the activations, the three projections side by side, the output projection. -/
abbrev VX (F : FTy → Type) : Type := Vec F S512x1024 .bf16
/-- The contents of the three projections side by side. -/
abbrev VW (F : FTy → Type) : Type := Vec F S1024x1536 .bf16
/-- The contents of the output projection. -/
abbrev VO (F : FTy → Type) : Type := Vec F S1024x1024 .bf16

/-- Block `b` of the rows of a device's contribution, in the words of the kernel's own values. -/
def yblk (x : VX F) (w : VW F) (o : VO F) (b : Fin 4) : Blk F :=
  match b with
  | 0 => k0_pay13 (k0_pay3 w x) (k0_pay4 w x) (k0_pay6 o) (k0_pay9 w x) (k0_pay10 w x) (k0_pay11 w x) (k0_pay12 (F := F))
  | 1 => k0_pay16 (k0_pay3 w x) (k0_pay4 w x) (k0_pay6 o) (k0_pay8 w x) (k0_pay9 w x) (k0_pay14 (k0_pay3 w x)) (k0_pay15 (k0_pay4 w x)) (constant S512x512 .f32 0x00000000#32)
  | 2 => k0_pay19 (k0_pay18 (k0_pay3 w x) (k0_pay4 w x) (k0_pay6 o) (k0_pay8 w x) (k0_pay9 w x))
  | 3 => k0_pay26 (k0_pay6 o) (k0_pay22 (k0_pay3 w x) (k0_pay4 w x) (k0_pay8 w x)) (k0_pay23 (k0_pay3 w x) (k0_pay4 w x) (k0_pay9 w x)) (k0_pay24 (k0_pay3 w x) (k0_pay4 w x) (k0_pay9 w x)) (k0_pay25 (F := F))

variable (X : Dev nD → VX F) (Wt : Dev nD → VW F) (Wo : Dev nD → VO F)

/-- The blocks of all devices. -/
def Yv (c : Dev nD) (b : Fin 4) : Blk F := yblk (X c) (Wt c) (Wo c) b

/-- A block of rows of the result. -/
abbrev RBlk (F : FTy → Type) : Type := FVec F S128x1024 .bf16

/-- Block `b` of the rows of the result on device `c`. -/
def Ob (c : Dev nD) (b : Fin 4) : RBlk F := k0_pay21 (P (Yv X Wt Wo) c b) (P (Yv X Wt Wo) (p2 c) b)

/-- The staging buffer of the result. -/
abbrev oM : Memref sig .tc .vmem S512x1024 .bf16 := Memref.whole cc0_stg3_0

/-- A block of rows lies inside the result. -/
theorem inbO (b : Fin 4) : ∀ a, (![128 * b.val, 0] : Fin 2 → Nat) a + S128x1024.size a ≤ S512x1024.size a := by revert b; decide

/-- The rectangle of block `b` of the rows. -/
abbrev rO (b : Fin 4) : Rect S512x1024 := Rect.unit (s := S512x1024) ![128 * b.val, 0] S128x1024.size (inbO b)

/-- Device `c` holds block `b` of the rows of the result's buffer, at `w`. -/
def row (b : Fin 4) (c : Dev nD) (w : RBlk F) : sProp 𝕄 := owns (c : Thread nD τ) (oM.slice (rO b) (fun _ => rfl)) fullShare w

/-- A block of rows with any contents. -/
def anyRow (b : Fin 4) (c : Dev nD) : sProp 𝕄 := iprop(∃ w : RBlk F, row b c w)

/-- A load of a block of rows reads what it holds. -/
theorem load_row {α : Type} {Kt : α → sProp 𝕄} (b : Fin 4) (c : Dev nD) (w : RBlk F)
    {hl : oM.view.LoadsAt (rO b).toLoadRect} {k : RBlk F → Prog (TpuEff nD τ sig (Elt F) Λ₀ .tc) α} :
    row b c w ⊢ iprop((row b c w -∗ goes c (k w) Kt) -∗ goes c (.op (.load oM (rO b).toLoadRect hl) k) Kt) :=
  load_own oM (rO b) (fun _ => rfl) c w

/-- A store into a block of rows leaves what was stored. -/
theorem store_row {α : Type} {Kt : α → sProp 𝕄} (b : Fin 4) (c : Dev nD) (w₀ w : RBlk F)
    {hx : (oM.access (rO b)).Stores Finset.univ} {hm : (Finset.univ : Finset (rO b).shape.Idx) = Finset.univ ∨ ∀ a, (rO b).stride a = 1}
    {k : PUnit → Prog (TpuEff nD τ sig (Elt F) Λ₀ .tc) α} :
    row b c w₀ ⊢ iprop((row b c w -∗ goes c (k ⟨⟩) Kt) -∗ goes c (.op (.store oM (rO b) w Finset.univ hx hm) k) Kt) :=
  store_own oM (rO b) (fun _ => rfl) c w₀ w

/-- A program that is done. -/
theorem goes_ret {α : Type} {Kt : α → sProp 𝕄} (c : Dev nD) (a : α) : Kt a ⊢ goes c (.ret a) Kt := by
  unfold goes; rw [wp_ret]
  iintro H
  imodintro
  iexact H

/-- The four blocks' resources side by side. -/
def four (f : Fin 4 → sProp 𝕄) : sProp 𝕄 := iprop(f 0 ∗ f 1 ∗ f 2 ∗ f 3)

/-- A conjunction over four is the four one by one. -/
theorem four_eq (f : Fin 4 → sProp 𝕄) : bigSep Finset.univ f = four f := by
  unfold four
  rw [show (Finset.univ : Finset (Fin 4)) = {0, 1, 2, 3} from rfl, bigSep_insert (by decide), bigSep_insert (by decide), bigSep_insert (by decide), bigSep_singleton]
  rfl

/-- A buffer's slot on a device together with that its arrival cell is open. -/
abbrev lands (m : Memref sig .tc .vmem S4x128x1024 .bf16) (j b : Fin 4) (n : Dev nD) : sProp 𝕄 :=
  iprop(anySlot (F := F) m b n ∗ reached ER (kcell n (some (j, b))) 0)
/-- The first partner's signal brings the four landing places of the first exchange. -/
theorem barPay1_eq (c : Dev nD) : barPay1 (F := F) c = iprop(lands r1M 1 0 (p1 c) ∗ lands r1M 1 1 (p1 c) ∗ lands r1M 1 2 (p1 c) ∗ lands r1M 1 3 (p1 c)) := by
  unfold barPay1; rw [four_eq]; rfl
/-- The second partner's signal brings the four landing places of the second exchange. -/
theorem barPay2_eq (c : Dev nD) : barPay2 (F := F) c = iprop(lands r2M 3 0 (p2 c) ∗ lands r2M 3 1 (p2 c) ∗ lands r2M 3 2 (p2 c) ∗ lands r2M 3 3 (p2 c)) := by
  unfold barPay2; rw [four_eq]; rfl

/-! ## Facts that every step may use -/

/-- Every cell's invariant, at names `K`. -/
def inv (K : Dev nD × CI → ℕ) : sProp 𝕄 := bigSep Finset.univ fun i : Dev nD × CI => cellInv ER (Rd (Yv X Wt Wo)) (K i) (kcell i.1 i.2)

/-- The invariants, that the device's own cells and its partners' barrier cells are open, and the levels. -/
def recs (K : Dev nD × CI → ℕ) (c : Dev nD) : sProp 𝕄 :=
  iprop(inv X Wt Wo K ∗ (bigSep Finset.univ fun i : CI => reached ER (kcell c i) 0)
    ∗ reached ER (kcell (p1 c) none) 0 ∗ reached ER (kcell (p2 c) none) 0 ∗ levAts L lv)

/-- The invariants may be used again. -/
instance inv_persistent (K : Dev nD × CI → ℕ) : BI.Persistent (inv X Wt Wo K) := by unfold inv; infer_instance
/-- A device's records may be used again. -/
instance recs_persistent (K : Dev nD × CI → ℕ) (c : Dev nD) : BI.Persistent (recs X Wt Wo K c) := by unfold recs; infer_instance

/-- The invariant of one cell among all. -/
theorem inv_at (K : Dev nD × CI → ℕ) (c : Dev nD) (i : CI) : inv X Wt Wo K ⊢ cellInv ER (Rd (Yv X Wt Wo)) (K (c, i)) (kcell c i) := by
  unfold inv
  exact bigSep_elim (Φ := fun i : Dev nD × CI => (cellInv ER (Rd (Yv X Wt Wo)) (K i) (kcell i.1 i.2) : sProp 𝕄)) (Finset.mem_univ (c, i))

/-- The round of one cell among all. -/
theorem reached_at (c : Dev nD) (i : CI) : (bigSep Finset.univ fun i : CI => (reached ER (kcell c i) 0 : sProp 𝕄)) ⊢ reached ER (kcell c i) 0 :=
  bigSep_elim (Φ := fun i : CI => (reached ER (kcell c i) 0 : sProp 𝕄)) (Finset.mem_univ i)

variable {X Wt Wo} {K : Dev nD × CI → ℕ} {α : Type} {Kt : α → sProp (MT nD τ sig Unit (Elt F) ℕ UU ℕ)}

/-- A copy of exchange 1. -/
theorem send1 (b : Fin 4) (c n' : Dev nD) (hn : n' = p1 c) (w : Blk F) (hw : w = Yv X Wt Wo c b) (l : List (Fin 4 × Fin 4))
    {s₁ s₂ : DmaSem sig} (hs₁ : s₁ = dS 0 b) (hs₂ : s₂ = dS 1 b)
    {hsc : (slM r1M b : Memref sig (Dev.tc n' : Thread nD τ).2.kind .vmem S128x1024 .bf16).view.ref.isScScratch = false}
    {hsrc : (slM yM b).view.WordExact} {hdst : (slM r1M b : Memref sig (Dev.tc n' : Thread nD τ).2.kind .vmem S128x1024 .bf16).view.WordExact}
    {hsem : DmaTarget.Typed .vmem (.dma s₂) (.remote (Dev.tc n' : Thread nD τ) (slM r1M b : Memref sig (Dev.tc n' : Thread nD τ).2.kind .vmem S128x1024 .bf16) (.dma s₁) hsc)}
    {k : PUnit → Prog (TpuEff nD τ sig (Elt F) Λ₀ .tc) α} :
    iprop(recs X Wt Wo K c ∗ slot yM b c w ∗ (anySlot (F := F) r1M b (p1 c) ∗ reached ER (kcell (p1 c) (some (1, b))) 0) ∗ owing c (owe c ((1, b) :: l))
        ∗ dutyTok ER (kcell c (some (0, b))) 0 true ∗ dutyTok ER (kcell (p1 c) (some (1, b))) 0 true)
      ⊢ iprop(((cred (tallyAt (kcell c (some (0, b))) () N) ∗ owing c (owe c l)) -∗ goes c (k ⟨⟩) Kt)
          -∗ goes c (.op (.enqueueDma (slM yM b) (.remote (Dev.tc n' : Thread nD τ) (slM r1M b) (.dma s₁) hsc) (.dma s₂) hsrc hdst hsem) k) Kt) := by
  subst hw
  unfold recs
  iintro ⟨⟨#HI, #Hr, -, -, -⟩, Hs, ⟨Hd, #Hrd⟩, HO, Ht1, Ht2⟩
  iapply (send_step (Yv X Wt Wo) yM r1M b 0 1 c (p1 c) n' hn (Yv X Wt Wo c b) l (K (c, some (0, b))) (K (p1 c, some (1, b))) rfl hs₁ hs₂ rfl rfl
    (by show slot r1M b (p1 c) (Yv X Wt Wo (p1 (p1 c)) b) = _; rw [p1_p1]))
  isplitr; · iapply (inv_at X Wt Wo K c (some (0, b))); iexact HI
  isplitr; · iapply (inv_at X Wt Wo K (p1 c) (some (1, b))); iexact HI
  isplitl [Hs]; · iexact Hs
  isplitl [Hd]; · iexact Hd
  isplitl [HO]; · iexact HO
  isplitl [Ht1]; · iexact Ht1
  isplitr; · iapply (reached_at c (some (0, b))); iexact Hr
  isplitl [Ht2]; · iexact Ht2
  iexact Hrd

/-- A copy of exchange 2. -/
theorem send2 (b : Fin 4) (c n' : Dev nD) (hn : n' = p2 c) (w : Blk F) (hw : w = P (Yv X Wt Wo) c b) (l : List (Fin 4 × Fin 4))
    {s₁ s₂ : DmaSem sig} (hs₁ : s₁ = dS 2 b) (hs₂ : s₂ = dS 3 b)
    {hsc : (slM r2M b : Memref sig (Dev.tc n' : Thread nD τ).2.kind .vmem S128x1024 .bf16).view.ref.isScScratch = false}
    {hsrc : (slM psM b).view.WordExact} {hdst : (slM r2M b : Memref sig (Dev.tc n' : Thread nD τ).2.kind .vmem S128x1024 .bf16).view.WordExact}
    {hsem : DmaTarget.Typed .vmem (.dma s₂) (.remote (Dev.tc n' : Thread nD τ) (slM r2M b : Memref sig (Dev.tc n' : Thread nD τ).2.kind .vmem S128x1024 .bf16) (.dma s₁) hsc)}
    {k : PUnit → Prog (TpuEff nD τ sig (Elt F) Λ₀ .tc) α} :
    iprop(recs X Wt Wo K c ∗ slot psM b c w ∗ (anySlot (F := F) r2M b (p2 c) ∗ reached ER (kcell (p2 c) (some (3, b))) 0) ∗ owing c (owe c ((3, b) :: l))
        ∗ dutyTok ER (kcell c (some (2, b))) 0 true ∗ dutyTok ER (kcell (p2 c) (some (3, b))) 0 true)
      ⊢ iprop(((cred (tallyAt (kcell c (some (2, b))) () N) ∗ owing c (owe c l)) -∗ goes c (k ⟨⟩) Kt)
          -∗ goes c (.op (.enqueueDma (slM psM b) (.remote (Dev.tc n' : Thread nD τ) (slM r2M b) (.dma s₁) hsc) (.dma s₂) hsrc hdst hsem) k) Kt) := by
  subst hw
  unfold recs
  iintro ⟨⟨#HI, #Hr, -, -, -⟩, Hs, ⟨Hd, #Hrd⟩, HO, Ht1, Ht2⟩
  iapply (send_step (Yv X Wt Wo) psM r2M b 2 3 c (p2 c) n' hn (P (Yv X Wt Wo) c b) l (K (c, some (2, b))) (K (p2 c, some (3, b))) rfl hs₁ hs₂ rfl rfl
    (by show slot r2M b (p2 c) (P (Yv X Wt Wo) (p2 (p2 c)) b) = _; rw [p2_p2]))
  isplitr; · iapply (inv_at X Wt Wo K c (some (2, b))); iexact HI
  isplitr; · iapply (inv_at X Wt Wo K (p2 c) (some (3, b))); iexact HI
  isplitl [Hs]; · iexact Hs
  isplitl [Hd]; · iexact Hd
  isplitl [HO]; · iexact HO
  isplitl [Ht1]; · iexact Ht1
  isplitr; · iapply (reached_at c (some (2, b))); iexact Hr
  isplitl [Ht2]; · iexact Ht2
  iexact Hrd

/-- A wait on a DMA cell. -/
theorem waitD (b j : Fin 4) (c : Dev nD) (l : List (Fin 4 × Fin 4)) (hl : ∀ x ∈ l, lvS (sl (some (j, b))) < lvS (sl (some x)))
    {s : DmaSem sig} (hs : s = dS j b) {src dst : Memref sig .tc .vmem S128x1024 .bf16} (hN : dst.view.dmaCredit = N)
    {hsrc : src.view.WordExact} {hdst : dst.view.WordExact} {k : PUnit → Prog (TpuEff nD τ sig (Elt F) Λ₀ .tc) α} :
    iprop(recs X Wt Wo K c ∗ cred (tallyAt (kcell c (some (j, b))) () N) ∗ owing c (owe c l) ∗ atPos ER (kcell c (some (j, b))) 0 ∅ 0)
      ⊢ iprop(((owing c (owe c l) ∗ atPos ER (kcell c (some (j, b))) 1 ∅ 0 ∗ dmaPay (Yv X Wt Wo) c j.val b) -∗ goes c (k ⟨⟩) Kt)
          -∗ goes c (.op (.waitDma2 s src dst hsrc hdst) k) Kt) := by
  unfold recs
  iintro ⟨⟨#HI, -, -, -, #Hlev⟩, Hc, HO, Hat⟩
  iapply (wait_step (Yv X Wt Wo) b j c l (K (c, some (j, b))) hl hs hN)
  isplitr; · iapply (inv_at X Wt Wo K c (some (j, b))); iexact HI
  isplitl [Hc]; · iexact Hc
  isplitl [HO]; · iexact HO
  isplitr; · iexact Hlev
  iexact Hat

/-- The two signals and the barrier wait: the device's own arrival buffers go to the partners, theirs come. -/
theorem barrier (c : Dev nD) {z z' : ℤ} {z'' : ℤ} (hz : z = ((1 : ℕ) : ℤ)) (hz' : z' = ((1 : ℕ) : ℤ)) (hz'' : z'' = 2) {n n' : Dev nD}
    (hn : (n = p1 c ∧ n' = p2 c) ∨ (n = p2 c ∧ n' = p1 c))
    {k : PUnit → Prog (TpuEff nD τ sig (Elt F) Λ₀ .tc) α} :
    iprop(recs X Wt Wo K c ∗ owing c (O₀ c) ∗ dutyTok ER (kcell (p1 c) none) 0 true ∗ dutyTok ER (kcell (p2 c) none) 0 false
        ∗ four (fun b => anySlot (F := F) r1M b c) ∗ four (fun b => anySlot (F := F) r2M b c)
        ∗ cred (tallyAt (kcell c none) () 2) ∗ atPos ER (kcell c none) 0 ∅ 0)
      ⊢ iprop(((owing c (owe c order) ∗ atPos ER (kcell c none) 1 ∅ 0 ∗ barPay1 (F := F) c ∗ barPay2 (F := F) c) -∗ goes c (k ⟨⟩) Kt)
          -∗ goes c (.op (.semSignal (Dev.tc n : Thread nD τ) barS z) fun _ => .op (.semSignal (Dev.tc n' : Thread nD τ) barS z') fun _ => .op (.semWait barS z'') k) Kt) := by
  have pay1 : iprop((bigSep Finset.univ fun i : CI => (reached ER (kcell c i) 0 : sProp 𝕄)) ∗ four (fun b => anySlot (F := F) r1M b c))
      ⊢ (Rd (Yv X Wt Wo)).payload (kcell (p1 c) none) 0 true := by
    rw [payload_bar, if_pos rfl]; unfold barPay1
    rw [p1_p1, four_eq]; unfold four
    iintro ⟨#Hr, H0, H1, H2, H3⟩
    isplitl [H0]; · isplitl [H0]; · iexact H0
                    iapply (reached_at c _); iexact Hr
    isplitl [H1]; · isplitl [H1]; · iexact H1
                    iapply (reached_at c _); iexact Hr
    isplitl [H2]; · isplitl [H2]; · iexact H2
                    iapply (reached_at c _); iexact Hr
    isplitl [H3]; · iexact H3
    iapply (reached_at c _); iexact Hr
  have pay2 : iprop((bigSep Finset.univ fun i : CI => (reached ER (kcell c i) 0 : sProp 𝕄)) ∗ four (fun b => anySlot (F := F) r2M b c))
      ⊢ (Rd (Yv X Wt Wo)).payload (kcell (p2 c) none) 0 false := by
    rw [payload_bar, if_neg (by decide)]; unfold barPay2
    rw [p2_p2, four_eq]; unfold four
    iintro ⟨#Hr, H0, H1, H2, H3⟩
    isplitl [H0]; · isplitl [H0]; · iexact H0
                    iapply (reached_at c _); iexact Hr
    isplitl [H1]; · isplitl [H1]; · iexact H1
                    iapply (reached_at c _); iexact Hr
    isplitl [H2]; · isplitl [H2]; · iexact H2
                    iapply (reached_at c _); iexact Hr
    isplitl [H3]; · iexact H3
    iapply (reached_at c _); iexact Hr
  unfold recs
  iintro ⟨⟨#HI, #Hr, #Hb1, #Hb2, #Hlev⟩, HO, Ht1, Ht2, H1, H2, Hc, Hat⟩ Hk
  ihave HP1 := pay1 $$ [H1]
  · isplitr; · iexact Hr
    iexact H1
  ihave HP2 := pay2 $$ [H2]
  · isplitr; · iexact Hr
    iexact H2
  rcases hn with ⟨h, h'⟩ | ⟨h, h'⟩
  · iapply (signal_step (Yv X Wt Wo) c (p1 c) n h true (owe c order + tallyAt (kcell (p2 c) none) () 1) (O₀ c)
      (by unfold O₀; rw [add_right_comm]) (K (p1 c, none)) hz) $$ [HO Ht1 HP1]
    · isplitr; · iapply (inv_at X Wt Wo K (p1 c) none); iexact HI
      isplitl [HO]; · iexact HO
      isplitl [Ht1]; · iexact Ht1
      isplitl [HP1]; · iexact HP1
      iexact Hb1
    iintro HO
    iapply (signal_step (Yv X Wt Wo) c (p2 c) n' h' false (owe c order) (owe c order + tallyAt (kcell (p2 c) none) () 1) rfl (K (p2 c, none)) hz') $$ [HO Ht2 HP2]
    · isplitr; · iapply (inv_at X Wt Wo K (p2 c) none); iexact HI
      isplitl [HO]; · iexact HO
      isplitl [Ht2]; · iexact Ht2
      isplitl [HP2]; · iexact HP2
      iexact Hb2
    iintro HO
    iapply (bar_step (Yv X Wt Wo) c (K (c, none)) hz'') $$ [HO Hc Hat]
    · isplitr; · iapply (inv_at X Wt Wo K c none); iexact HI
      isplitl [Hc]; · iexact Hc
      isplitl [HO]; · iexact HO
      isplitr; · iexact Hlev
      iexact Hat
    iexact Hk
  · iapply (signal_step (Yv X Wt Wo) c (p2 c) n h false (owe c order + tallyAt (kcell (p1 c) none) () 1) (O₀ c) rfl (K (p2 c, none)) hz) $$ [HO Ht2 HP2]
    · isplitr; · iapply (inv_at X Wt Wo K (p2 c) none); iexact HI
      isplitl [HO]; · iexact HO
      isplitl [Ht2]; · iexact Ht2
      isplitl [HP2]; · iexact HP2
      iexact Hb2
    iintro HO
    iapply (signal_step (Yv X Wt Wo) c (p1 c) n' h' true (owe c order) (owe c order + tallyAt (kcell (p1 c) none) () 1) rfl (K (p1 c, none)) hz') $$ [HO Ht1 HP1]
    · isplitr; · iapply (inv_at X Wt Wo K (p1 c) none); iexact HI
      isplitl [HO]; · iexact HO
      isplitl [Ht1]; · iexact Ht1
      isplitl [HP1]; · iexact HP1
      iexact Hb1
    iintro HO
    iapply (bar_step (Yv X Wt Wo) c (K (c, none)) hz'') $$ [HO Hc Hat]
    · isplitr; · iapply (inv_at X Wt Wo K c none); iexact HI
      isplitl [Hc]; · iexact Hc
      isplitl [HO]; · iexact HO
      isplitr; · iexact Hlev
      iexact Hat
    iexact Hk

end Cert.KernelIdeal.Run

end
-- ==== Proof.Ideal.Body.lean ====
/-
  The run of the kernel body on a device: from what the launch gives it to the four blocks of rows of the result.
-/
module

public import proofs.«01_k».proof.Proof.Ideal.Moves

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → VX F) (Wt : Dev nD → VW F) (Wo : Dev nD → VO F) (K : Dev nD × CI → ℕ)

/-- What the device holds of its DMA cells and of the right to pay those of its copies. -/
def ghosts (c : Dev nD) : sProp 𝕄 :=
  iprop(four (fun b => atPos ER (kcell c (some (0, b))) 0 ∅ 0) ∗ four (fun b => atPos ER (kcell c (some (1, b))) 0 ∅ 0)
    ∗ four (fun b => atPos ER (kcell c (some (2, b))) 0 ∅ 0) ∗ four (fun b => atPos ER (kcell c (some (3, b))) 0 ∅ 0)
    ∗ four (fun b => iprop(dutyTok ER (kcell c (some (0, b))) 0 true ∗ dutyTok ER (kcell (p1 c) (some (1, b))) 0 true))
    ∗ four (fun b => iprop(dutyTok ER (kcell c (some (2, b))) 0 true ∗ dutyTok ER (kcell (p2 c) (some (3, b))) 0 true))
    ∗ four (fun b => cred (tallyAt (kcell c (some (1, b))) () N)) ∗ four (fun b => cred (tallyAt (kcell c (some (3, b))) () N)))

/-- And of the barrier. -/
def ghostsB (c : Dev nD) : sProp 𝕄 :=
  iprop(dutyTok ER (kcell (p1 c) none) 0 true ∗ dutyTok ER (kcell (p2 c) none) 0 false ∗ cred (tallyAt (kcell c none) () 2) ∗ atPos ER (kcell c none) 0 ∅ 0)

/-- The four scratch buffers, contents unknown. -/
def scratch (c : Dev nD) : sProp 𝕄 :=
  iprop(four (fun b => anySlot (F := F) yM b c) ∗ four (fun b => anySlot (F := F) psM b c)
    ∗ four (fun b => anySlot (F := F) r1M b c) ∗ four (fun b => anySlot (F := F) r2M b c))

/-- The three operands. -/
def opnds (c : Dev nD) : sProp 𝕄 :=
  iprop(owns (c : Thread nD τ) (Memref.whole cc0_stg0_0) fullShare (X c) ∗ owns (c : Thread nD τ) (Memref.whole cc0_stg1_0) fullShare (Wt c)
    ∗ owns (c : Thread nD τ) (Memref.whole cc0_stg2_0) fullShare (Wo c))

/-- What the body of the kernel starts from. -/
def bodyPre (c : Dev nD) : sProp 𝕄 :=
  iprop(recs X Wt Wo K c ∗ ghostsB (F := F) c ∗ ghosts (F := F) c ∗ scratch (F := F) c ∗ opnds X Wt Wo c ∗ four (fun b => anyRow (F := F) b c) ∗ owing c (O₀ c))

/-- Every cell of the device is past its round. -/
def spent (c : Dev nD) : sProp 𝕄 :=
  iprop(atPos ER (kcell c none) 1 ∅ 0
    ∗ four (fun b => atPos ER (kcell c (some (0, b))) 1 ∅ 0) ∗ four (fun b => atPos ER (kcell c (some (1, b))) 1 ∅ 0)
    ∗ four (fun b => atPos ER (kcell c (some (2, b))) 1 ∅ 0) ∗ four (fun b => atPos ER (kcell c (some (3, b))) 1 ∅ 0))

/-- What the body of the kernel ends with. -/
def bodyPost (c : Dev nD) : sProp 𝕄 :=
  iprop(spent (F := F) c ∗ scratch (F := F) c ∗ opnds X Wt Wo c ∗ four (fun b => row b c (Ob X Wt Wo c b)) ∗ owing c 0)

/-- The offsets of a whole array of two axes are zero. -/
theorem z2 : (![0, 0] : Fin 2 → ℕ) = fun _ => 0 := funext fun a => by fin_cases a <;> rfl

variable {X Wt Wo K}

set_option maxHeartbeats 4000000 in
set_option pp.maxSteps 4000 in
set_option maxRecDepth 65536 in
/-- The body on device `c`: its blocks, the two exchanges, the sums into the rows of the result. -/
theorem body_run (c : Dev nD) (Kt : PUnit → sProp 𝕄) :
    iprop(bodyPre X Wt Wo K c ∗ (bodyPost X Wt Wo c -∗ Kt ⟨⟩))
      ⊢ goes c (cc0__body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) Kt := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret, wp_deviceId]
  unfold bodyPre ghostsB ghosts scratch opnds four
  unfold anySlot anyRow; beta_reduce
  iintro ⟨⟨#HR, ⟨HtB1, HtB2, HcB, HaB⟩, ⟨⟨Ha00, Ha01, Ha02, Ha03⟩, ⟨Ha10, Ha11, Ha12, Ha13⟩, ⟨Ha20, Ha21, Ha22, Ha23⟩, ⟨Ha30, Ha31, Ha32, Ha33⟩,
    ⟨⟨Ht00, Ht10⟩, ⟨Ht01, Ht11⟩, ⟨Ht02, Ht12⟩, Ht03, Ht13⟩, ⟨⟨Ht20, Ht30⟩, ⟨Ht21, Ht31⟩, ⟨Ht22, Ht32⟩, Ht23, Ht33⟩,
    ⟨Hc10, Hc11, Hc12, Hc13⟩, Hc30, Hc31, Hc32, Hc33⟩,
    ⟨⟨Hy0, Hy1, Hy2, Hy3⟩, ⟨Hs0, Hs1, Hs2, Hs3⟩, Hr1, Hr2⟩, ⟨Hx, Hw, Ho⟩, ⟨Ho0, Ho1, Ho2, Ho3⟩, HO⟩, Hk⟩
  -- the barrier
  iapply (barrier (X := X) (Wt := Wt) (Wo := Wo) (K := K) c (z := (1#32 : BitVec 32).toInt) (z' := (1#32 : BitVec 32).toInt) (z'' := (2#32 : BitVec 32).toInt)
      (by decide) (by decide) (by decide) (dev12_eq c)) $$ [HO HtB1 HtB2 Hr1 Hr2 HcB HaB]
  · isplitr; · iexact HR
    isplitl [HO]; · iexact HO
    isplitl [HtB1]; · iexact HtB1
    isplitl [HtB2]; · iexact HtB2
    isplitl [Hr1]; · unfold four anySlot; iexact Hr1
    isplitl [Hr2]; · unfold four anySlot; iexact Hr2
    isplitl [HcB]; · iexact HcB
    iexact HaB
  iintro ⟨HO, HaB, HP1, HP2⟩
  ihave HP1' := (Entails.of_eq (barPay1_eq c)) $$ HP1
  ihave HP2' := (Entails.of_eq (barPay2_eq c)) $$ HP2
  icases HP1' with ⟨HA0, HA1, HA2, HA3⟩
  icases HP2' with ⟨HB0, HB1, HB2, HB3⟩
  -- the operands
  iapply (load_win (Memref.whole cc0_stg1_0) z2 _ c (Wt c)) $$ Hw; iintro Hw
  iapply (load_win (Memref.whole cc0_stg0_0) z2 _ c (X c)) $$ Hx; iintro Hx
  iapply (load_win (Memref.whole cc0_stg2_0) z2 _ c (Wo c)) $$ Ho; iintro Ho
  -- block 0
  icases Hy0 with ⟨%wy0, Hy0⟩
  iapply (load_slot yM 0 c wy0) $$ Hy0; iintro Hy0
  iapply (store_slot yM 0 c wy0 (Yv X Wt Wo c 0)) $$ Hy0; iintro Hy0
  iapply (send1 (X := X) (Wt := Wt) (Wo := Wo) (K := K) 0 c _ (dev3_eq c) (Yv X Wt Wo c 0) rfl [(1, 1), (3, 0), (1, 2), (3, 1), (1, 3), (3, 2), (3, 3)] (sem0 0) (sem1 0)) $$ [Hy0 HA0 HO Ht00 Ht10]
  · isplitr; · iexact HR
    isplitl [Hy0]; · iexact Hy0
    isplitl [HA0]; · iexact HA0
    isplitl [HO]; · iexact HO
    isplitl [Ht00]; · iexact Ht00
    iexact Ht10
  iintro ⟨Hc00, HO⟩
  -- block 1
  icases Hy1 with ⟨%wy1, Hy1⟩
  iapply (load_slot yM 1 c wy1) $$ Hy1; iintro Hy1
  iapply (store_slot yM 1 c wy1 (Yv X Wt Wo c 1)) $$ Hy1; iintro Hy1
  iapply (send1 (X := X) (Wt := Wt) (Wo := Wo) (K := K) 1 c _ (dev4_eq c) (Yv X Wt Wo c 1) rfl [(3, 0), (1, 2), (3, 1), (1, 3), (3, 2), (3, 3)] (sem0 1) (sem1 1)) $$ [Hy1 HA1 HO Ht01 Ht11]
  · isplitr; · iexact HR
    isplitl [Hy1]; · iexact Hy1
    isplitl [HA1]; · iexact HA1
    isplitl [HO]; · iexact HO
    isplitl [Ht01]; · iexact Ht01
    iexact Ht11
  iintro ⟨Hc01, HO⟩
  iapply (waitD (X := X) (Wt := Wt) (Wo := Wo) (K := K) (dst := slM yM 0) 0 0 c [(3, 0), (1, 2), (3, 1), (1, 3), (3, 2), (3, 3)] (by decide) (sem0 0) rfl) $$ [Hc00 HO Ha00]
  · isplitr; · iexact HR
    isplitl [Hc00]; · iexact Hc00
    isplitl [HO]; · iexact HO
    iexact Ha00
  iintro ⟨HO, Ha00, HP⟩
  ihave Hy0 := (show dmaPay (Yv X Wt Wo) c (0 : Fin 4).val 0 ⊢ slot yM 0 c (Yv X Wt Wo c 0) from .rfl) $$ HP
  iapply (waitD (X := X) (Wt := Wt) (Wo := Wo) (K := K) (dst := slM r1M 0) 0 1 c [(3, 0), (1, 2), (3, 1), (1, 3), (3, 2), (3, 3)] (by decide) (sem1 0) rfl) $$ [Hc10 HO Ha10]
  · isplitr; · iexact HR
    isplitl [Hc10]; · iexact Hc10
    isplitl [HO]; · iexact HO
    iexact Ha10
  iintro ⟨HO, Ha10, HP⟩
  ihave Hq0 := (show dmaPay (Yv X Wt Wo) c (1 : Fin 4).val 0 ⊢ slot r1M 0 c (Yv X Wt Wo (p1 c) 0) from .rfl) $$ HP
  iapply (load_slot yM 0 c (Yv X Wt Wo c 0)) $$ Hy0; iintro Hy0
  iapply (load_slot r1M 0 c (Yv X Wt Wo (p1 c) 0)) $$ Hq0; iintro Hq0
  icases Hs0 with ⟨%ws0, Hs0⟩
  iapply (load_slot psM 0 c ws0) $$ Hs0; iintro Hs0
  iapply (store_slot psM 0 c ws0 (P (Yv X Wt Wo) c 0)) $$ Hs0; iintro Hs0
  iapply (send2 (X := X) (Wt := Wt) (Wo := Wo) (K := K) 0 c _ (dev5_eq c) (P (Yv X Wt Wo) c 0) rfl [(1, 2), (3, 1), (1, 3), (3, 2), (3, 3)] (sem2 0) (sem3 0)) $$ [Hs0 HB0 HO Ht20 Ht30]
  · isplitr; · iexact HR
    isplitl [Hs0]; · iexact Hs0
    isplitl [HB0]; · iexact HB0
    isplitl [HO]; · iexact HO
    isplitl [Ht20]; · iexact Ht20
    iexact Ht30
  iintro ⟨Hc20, HO⟩
  -- block 2
  icases Hy2 with ⟨%wy2, Hy2⟩
  iapply (load_slot yM 2 c wy2) $$ Hy2; iintro Hy2
  iapply (store_slot yM 2 c wy2 (Yv X Wt Wo c 2)) $$ Hy2; iintro Hy2
  iapply (send1 (X := X) (Wt := Wt) (Wo := Wo) (K := K) 2 c _ (dev6_eq c) (Yv X Wt Wo c 2) rfl [(3, 1), (1, 3), (3, 2), (3, 3)] (sem0 2) (sem1 2)) $$ [Hy2 HA2 HO Ht02 Ht12]
  · isplitr; · iexact HR
    isplitl [Hy2]; · iexact Hy2
    isplitl [HA2]; · iexact HA2
    isplitl [HO]; · iexact HO
    isplitl [Ht02]; · iexact Ht02
    iexact Ht12
  iintro ⟨Hc02, HO⟩
  iapply (waitD (X := X) (Wt := Wt) (Wo := Wo) (K := K) (dst := slM yM 1) 1 0 c [(3, 1), (1, 3), (3, 2), (3, 3)] (by decide) (sem0 1) rfl) $$ [Hc01 HO Ha01]
  · isplitr; · iexact HR
    isplitl [Hc01]; · iexact Hc01
    isplitl [HO]; · iexact HO
    iexact Ha01
  iintro ⟨HO, Ha01, HP⟩
  ihave Hy1 := (show dmaPay (Yv X Wt Wo) c (0 : Fin 4).val 1 ⊢ slot yM 1 c (Yv X Wt Wo c 1) from .rfl) $$ HP
  iapply (waitD (X := X) (Wt := Wt) (Wo := Wo) (K := K) (dst := slM r1M 1) 1 1 c [(3, 1), (1, 3), (3, 2), (3, 3)] (by decide) (sem1 1) rfl) $$ [Hc11 HO Ha11]
  · isplitr; · iexact HR
    isplitl [Hc11]; · iexact Hc11
    isplitl [HO]; · iexact HO
    iexact Ha11
  iintro ⟨HO, Ha11, HP⟩
  ihave Hq1 := (show dmaPay (Yv X Wt Wo) c (1 : Fin 4).val 1 ⊢ slot r1M 1 c (Yv X Wt Wo (p1 c) 1) from .rfl) $$ HP
  iapply (load_slot yM 1 c (Yv X Wt Wo c 1)) $$ Hy1; iintro Hy1
  iapply (load_slot r1M 1 c (Yv X Wt Wo (p1 c) 1)) $$ Hq1; iintro Hq1
  icases Hs1 with ⟨%ws1, Hs1⟩
  iapply (load_slot psM 1 c ws1) $$ Hs1; iintro Hs1
  iapply (store_slot psM 1 c ws1 (P (Yv X Wt Wo) c 1)) $$ Hs1; iintro Hs1
  iapply (send2 (X := X) (Wt := Wt) (Wo := Wo) (K := K) 1 c _ (dev7_eq c) (P (Yv X Wt Wo) c 1) rfl [(1, 3), (3, 2), (3, 3)] (sem2 1) (sem3 1)) $$ [Hs1 HB1 HO Ht21 Ht31]
  · isplitr; · iexact HR
    isplitl [Hs1]; · iexact Hs1
    isplitl [HB1]; · iexact HB1
    isplitl [HO]; · iexact HO
    isplitl [Ht21]; · iexact Ht21
    iexact Ht31
  iintro ⟨Hc21, HO⟩
  iapply (waitD (X := X) (Wt := Wt) (Wo := Wo) (K := K) (dst := slM psM 0) 0 2 c [(1, 3), (3, 2), (3, 3)] (by decide) (sem2 0) rfl) $$ [Hc20 HO Ha20]
  · isplitr; · iexact HR
    isplitl [Hc20]; · iexact Hc20
    isplitl [HO]; · iexact HO
    iexact Ha20
  iintro ⟨HO, Ha20, HP⟩
  ihave Hs0 := (show dmaPay (Yv X Wt Wo) c (2 : Fin 4).val 0 ⊢ slot psM 0 c (P (Yv X Wt Wo) c 0) from .rfl) $$ HP
  iapply (waitD (X := X) (Wt := Wt) (Wo := Wo) (K := K) (dst := slM r2M 0) 0 3 c [(1, 3), (3, 2), (3, 3)] (by decide) (sem3 0) rfl) $$ [Hc30 HO Ha30]
  · isplitr; · iexact HR
    isplitl [Hc30]; · iexact Hc30
    isplitl [HO]; · iexact HO
    iexact Ha30
  iintro ⟨HO, Ha30, HP⟩
  ihave Hv0 := (show dmaPay (Yv X Wt Wo) c (3 : Fin 4).val 0 ⊢ slot r2M 0 c (P (Yv X Wt Wo) (p2 c) 0) from .rfl) $$ HP
  iapply (load_slot psM 0 c (P (Yv X Wt Wo) c 0)) $$ Hs0; iintro Hs0
  iapply (load_slot r2M 0 c (P (Yv X Wt Wo) (p2 c) 0)) $$ Hv0; iintro Hv0
  icases Ho0 with ⟨%wo0, Ho0⟩
  iapply (load_row 0 c wo0) $$ Ho0; iintro Ho0
  iapply (store_row 0 c wo0 (Ob X Wt Wo c 0)) $$ Ho0; iintro Ho0
  -- block 3
  icases Hy3 with ⟨%wy3, Hy3⟩
  iapply (load_slot yM 3 c wy3) $$ Hy3; iintro Hy3
  iapply (store_slot yM 3 c wy3 (Yv X Wt Wo c 3)) $$ Hy3; iintro Hy3
  iapply (send1 (X := X) (Wt := Wt) (Wo := Wo) (K := K) 3 c _ (dev8_eq c) (Yv X Wt Wo c 3) rfl [(3, 2), (3, 3)] (sem0 3) (sem1 3)) $$ [Hy3 HA3 HO Ht03 Ht13]
  · isplitr; · iexact HR
    isplitl [Hy3]; · iexact Hy3
    isplitl [HA3]; · iexact HA3
    isplitl [HO]; · iexact HO
    isplitl [Ht03]; · iexact Ht03
    iexact Ht13
  iintro ⟨Hc03, HO⟩
  iapply (waitD (X := X) (Wt := Wt) (Wo := Wo) (K := K) (dst := slM yM 2) 2 0 c [(3, 2), (3, 3)] (by decide) (sem0 2) rfl) $$ [Hc02 HO Ha02]
  · isplitr; · iexact HR
    isplitl [Hc02]; · iexact Hc02
    isplitl [HO]; · iexact HO
    iexact Ha02
  iintro ⟨HO, Ha02, HP⟩
  ihave Hy2 := (show dmaPay (Yv X Wt Wo) c (0 : Fin 4).val 2 ⊢ slot yM 2 c (Yv X Wt Wo c 2) from .rfl) $$ HP
  iapply (waitD (X := X) (Wt := Wt) (Wo := Wo) (K := K) (dst := slM r1M 2) 2 1 c [(3, 2), (3, 3)] (by decide) (sem1 2) rfl) $$ [Hc12 HO Ha12]
  · isplitr; · iexact HR
    isplitl [Hc12]; · iexact Hc12
    isplitl [HO]; · iexact HO
    iexact Ha12
  iintro ⟨HO, Ha12, HP⟩
  ihave Hq2 := (show dmaPay (Yv X Wt Wo) c (1 : Fin 4).val 2 ⊢ slot r1M 2 c (Yv X Wt Wo (p1 c) 2) from .rfl) $$ HP
  iapply (load_slot yM 2 c (Yv X Wt Wo c 2)) $$ Hy2; iintro Hy2
  iapply (load_slot r1M 2 c (Yv X Wt Wo (p1 c) 2)) $$ Hq2; iintro Hq2
  icases Hs2 with ⟨%ws2, Hs2⟩
  iapply (load_slot psM 2 c ws2) $$ Hs2; iintro Hs2
  iapply (store_slot psM 2 c ws2 (P (Yv X Wt Wo) c 2)) $$ Hs2; iintro Hs2
  iapply (send2 (X := X) (Wt := Wt) (Wo := Wo) (K := K) 2 c _ (dev9_eq c) (P (Yv X Wt Wo) c 2) rfl [(3, 3)] (sem2 2) (sem3 2)) $$ [Hs2 HB2 HO Ht22 Ht32]
  · isplitr; · iexact HR
    isplitl [Hs2]; · iexact Hs2
    isplitl [HB2]; · iexact HB2
    isplitl [HO]; · iexact HO
    isplitl [Ht22]; · iexact Ht22
    iexact Ht32
  iintro ⟨Hc22, HO⟩
  iapply (waitD (X := X) (Wt := Wt) (Wo := Wo) (K := K) (dst := slM psM 1) 1 2 c [(3, 3)] (by decide) (sem2 1) rfl) $$ [Hc21 HO Ha21]
  · isplitr; · iexact HR
    isplitl [Hc21]; · iexact Hc21
    isplitl [HO]; · iexact HO
    iexact Ha21
  iintro ⟨HO, Ha21, HP⟩
  ihave Hs1 := (show dmaPay (Yv X Wt Wo) c (2 : Fin 4).val 1 ⊢ slot psM 1 c (P (Yv X Wt Wo) c 1) from .rfl) $$ HP
  iapply (waitD (X := X) (Wt := Wt) (Wo := Wo) (K := K) (dst := slM r2M 1) 1 3 c [(3, 3)] (by decide) (sem3 1) rfl) $$ [Hc31 HO Ha31]
  · isplitr; · iexact HR
    isplitl [Hc31]; · iexact Hc31
    isplitl [HO]; · iexact HO
    iexact Ha31
  iintro ⟨HO, Ha31, HP⟩
  ihave Hv1 := (show dmaPay (Yv X Wt Wo) c (3 : Fin 4).val 1 ⊢ slot r2M 1 c (P (Yv X Wt Wo) (p2 c) 1) from .rfl) $$ HP
  iapply (load_slot psM 1 c (P (Yv X Wt Wo) c 1)) $$ Hs1; iintro Hs1
  iapply (load_slot r2M 1 c (P (Yv X Wt Wo) (p2 c) 1)) $$ Hv1; iintro Hv1
  icases Ho1 with ⟨%wo1, Ho1⟩
  iapply (load_row 1 c wo1) $$ Ho1; iintro Ho1
  iapply (store_row 1 c wo1 (Ob X Wt Wo c 1)) $$ Ho1; iintro Ho1
  iapply (waitD (X := X) (Wt := Wt) (Wo := Wo) (K := K) (dst := slM yM 3) 3 0 c [(3, 3)] (by decide) (sem0 3) rfl) $$ [Hc03 HO Ha03]
  · isplitr; · iexact HR
    isplitl [Hc03]; · iexact Hc03
    isplitl [HO]; · iexact HO
    iexact Ha03
  iintro ⟨HO, Ha03, HP⟩
  ihave Hy3 := (show dmaPay (Yv X Wt Wo) c (0 : Fin 4).val 3 ⊢ slot yM 3 c (Yv X Wt Wo c 3) from .rfl) $$ HP
  iapply (waitD (X := X) (Wt := Wt) (Wo := Wo) (K := K) (dst := slM r1M 3) 3 1 c [(3, 3)] (by decide) (sem1 3) rfl) $$ [Hc13 HO Ha13]
  · isplitr; · iexact HR
    isplitl [Hc13]; · iexact Hc13
    isplitl [HO]; · iexact HO
    iexact Ha13
  iintro ⟨HO, Ha13, HP⟩
  ihave Hq3 := (show dmaPay (Yv X Wt Wo) c (1 : Fin 4).val 3 ⊢ slot r1M 3 c (Yv X Wt Wo (p1 c) 3) from .rfl) $$ HP
  iapply (load_slot yM 3 c (Yv X Wt Wo c 3)) $$ Hy3; iintro Hy3
  iapply (load_slot r1M 3 c (Yv X Wt Wo (p1 c) 3)) $$ Hq3; iintro Hq3
  icases Hs3 with ⟨%ws3, Hs3⟩
  iapply (load_slot psM 3 c ws3) $$ Hs3; iintro Hs3
  iapply (store_slot psM 3 c ws3 (P (Yv X Wt Wo) c 3)) $$ Hs3; iintro Hs3
  iapply (send2 (X := X) (Wt := Wt) (Wo := Wo) (K := K) 3 c _ (dev10_eq c) (P (Yv X Wt Wo) c 3) rfl [] (sem2 3) (sem3 3)) $$ [Hs3 HB3 HO Ht23 Ht33]
  · isplitr; · iexact HR
    isplitl [Hs3]; · iexact Hs3
    isplitl [HB3]; · iexact HB3
    isplitl [HO]; · iexact HO
    isplitl [Ht23]; · iexact Ht23
    iexact Ht33
  iintro ⟨Hc23, HO⟩
  iapply (waitD (X := X) (Wt := Wt) (Wo := Wo) (K := K) (dst := slM psM 2) 2 2 c [] (by decide) (sem2 2) rfl) $$ [Hc22 HO Ha22]
  · isplitr; · iexact HR
    isplitl [Hc22]; · iexact Hc22
    isplitl [HO]; · iexact HO
    iexact Ha22
  iintro ⟨HO, Ha22, HP⟩
  ihave Hs2 := (show dmaPay (Yv X Wt Wo) c (2 : Fin 4).val 2 ⊢ slot psM 2 c (P (Yv X Wt Wo) c 2) from .rfl) $$ HP
  iapply (waitD (X := X) (Wt := Wt) (Wo := Wo) (K := K) (dst := slM r2M 2) 2 3 c [] (by decide) (sem3 2) rfl) $$ [Hc32 HO Ha32]
  · isplitr; · iexact HR
    isplitl [Hc32]; · iexact Hc32
    isplitl [HO]; · iexact HO
    iexact Ha32
  iintro ⟨HO, Ha32, HP⟩
  ihave Hv2 := (show dmaPay (Yv X Wt Wo) c (3 : Fin 4).val 2 ⊢ slot r2M 2 c (P (Yv X Wt Wo) (p2 c) 2) from .rfl) $$ HP
  iapply (load_slot psM 2 c (P (Yv X Wt Wo) c 2)) $$ Hs2; iintro Hs2
  iapply (load_slot r2M 2 c (P (Yv X Wt Wo) (p2 c) 2)) $$ Hv2; iintro Hv2
  icases Ho2 with ⟨%wo2, Ho2⟩
  iapply (load_row 2 c wo2) $$ Ho2; iintro Ho2
  iapply (store_row 2 c wo2 (Ob X Wt Wo c 2)) $$ Ho2; iintro Ho2
  iapply (waitD (X := X) (Wt := Wt) (Wo := Wo) (K := K) (dst := slM psM 3) 3 2 c [] (by decide) (sem2 3) rfl) $$ [Hc23 HO Ha23]
  · isplitr; · iexact HR
    isplitl [Hc23]; · iexact Hc23
    isplitl [HO]; · iexact HO
    iexact Ha23
  iintro ⟨HO, Ha23, HP⟩
  ihave Hs3 := (show dmaPay (Yv X Wt Wo) c (2 : Fin 4).val 3 ⊢ slot psM 3 c (P (Yv X Wt Wo) c 3) from .rfl) $$ HP
  iapply (waitD (X := X) (Wt := Wt) (Wo := Wo) (K := K) (dst := slM r2M 3) 3 3 c [] (by decide) (sem3 3) rfl) $$ [Hc33 HO Ha33]
  · isplitr; · iexact HR
    isplitl [Hc33]; · iexact Hc33
    isplitl [HO]; · iexact HO
    iexact Ha33
  iintro ⟨HO, Ha33, HP⟩
  ihave Hv3 := (show dmaPay (Yv X Wt Wo) c (3 : Fin 4).val 3 ⊢ slot r2M 3 c (P (Yv X Wt Wo) (p2 c) 3) from .rfl) $$ HP
  iapply (load_slot psM 3 c (P (Yv X Wt Wo) c 3)) $$ Hs3; iintro Hs3
  iapply (load_slot r2M 3 c (P (Yv X Wt Wo) (p2 c) 3)) $$ Hv3; iintro Hv3
  icases Ho3 with ⟨%wo3, Ho3⟩
  iapply (load_row 3 c wo3) $$ Ho3; iintro Ho3
  iapply (store_row 3 c wo3 (Ob X Wt Wo c 3)) $$ Ho3; iintro Ho3
  iapply (goes_ret (Kt := Kt) c PUnit.unit)
  iapply Hk
  unfold bodyPost spent scratch opnds four anySlot
  isplitl [HaB Ha00 Ha01 Ha02 Ha03 Ha10 Ha11 Ha12 Ha13 Ha20 Ha21 Ha22 Ha23 Ha30 Ha31 Ha32 Ha33]
  · isplitl [HaB]; · iexact HaB
    isplitl [Ha00 Ha01 Ha02 Ha03]
    · isplitl [Ha00]; · iexact Ha00
      isplitl [Ha01]; · iexact Ha01
      isplitl [Ha02]; · iexact Ha02
      iexact Ha03
    isplitl [Ha10 Ha11 Ha12 Ha13]
    · isplitl [Ha10]; · iexact Ha10
      isplitl [Ha11]; · iexact Ha11
      isplitl [Ha12]; · iexact Ha12
      iexact Ha13
    isplitl [Ha20 Ha21 Ha22 Ha23]
    · isplitl [Ha20]; · iexact Ha20
      isplitl [Ha21]; · iexact Ha21
      isplitl [Ha22]; · iexact Ha22
      iexact Ha23
    isplitl [Ha30]; · iexact Ha30
    isplitl [Ha31]; · iexact Ha31
    isplitl [Ha32]; · iexact Ha32
    iexact Ha33
  isplitl [Hy0 Hy1 Hy2 Hy3 Hs0 Hs1 Hs2 Hs3 Hq0 Hq1 Hq2 Hq3 Hv0 Hv1 Hv2 Hv3]
  · isplitl [Hy0 Hy1 Hy2 Hy3]
    · isplitl [Hy0]; · iexists _; iexact Hy0
      isplitl [Hy1]; · iexists _; iexact Hy1
      isplitl [Hy2]; · iexists _; iexact Hy2
      iexists _; iexact Hy3
    isplitl [Hs0 Hs1 Hs2 Hs3]
    · isplitl [Hs0]; · iexists _; iexact Hs0
      isplitl [Hs1]; · iexists _; iexact Hs1
      isplitl [Hs2]; · iexists _; iexact Hs2
      iexists _; iexact Hs3
    isplitl [Hq0 Hq1 Hq2 Hq3]
    · isplitl [Hq0]; · iexists _; iexact Hq0
      isplitl [Hq1]; · iexists _; iexact Hq1
      isplitl [Hq2]; · iexists _; iexact Hq2
      iexists _; iexact Hq3
    isplitl [Hv0]; · iexists _; iexact Hv0
    isplitl [Hv1]; · iexists _; iexact Hv1
    isplitl [Hv2]; · iexists _; iexact Hv2
    iexists _; iexact Hv3
  isplitl [Hx Hw Ho]
  · isplitl [Hx]; · iexact Hx
    isplitl [Hw]; · iexact Hw
    iexact Ho
  isplitl [Ho0 Ho1 Ho2 Ho3]
  · isplitl [Ho0]; · iexact Ho0
    isplitl [Ho1]; · iexact Ho1
    isplitl [Ho2]; · iexact Ho2
    iexact Ho3
  iexact HO

end Cert.KernelIdeal.Run

end
-- ==== Proof.Ideal.Stage.lean ====
/-
  The buffers as a whole and by their blocks: a scratch buffer is its four slots, the result's buffer is its four blocks of rows.
-/
module

public import proofs.«01_k».proof.Proof.Ideal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The slots of a scratch buffer do not meet, -/
theorem rB_disjoint (b b' : Fin 4) (h : b ≠ b') : Disjoint (rB b).set (rB b').set := by
  refine Rect.unit_disjoint 0 ?_
  have : b.val ≠ b'.val := fun e => h (Fin.ext e)
  show b.val + 1 ≤ b'.val ∨ b'.val + 1 ≤ b.val
  omega

/-- and fill it. -/
theorem rB_cover : (Finset.univ : Finset (Fin 4)).biUnion (fun b => (rB b).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  fin_cases a
  · exact ⟨le_refl _, Nat.lt_succ_self _⟩
  · exact ⟨Nat.zero_le _, by have := (i 1).isLt; simpa using this⟩
  · exact ⟨Nat.zero_le _, by have := (i 2).isLt; simpa using this⟩

/-- The blocks of rows of the result do not meet, -/
theorem rO_disjoint (b b' : Fin 4) (h : b ≠ b') : Disjoint (rO b).set (rO b').set := by
  refine Rect.unit_disjoint 0 ?_
  have : b.val ≠ b'.val := fun e => h (Fin.ext e)
  show 128 * b.val + 128 ≤ 128 * b'.val ∨ 128 * b'.val + 128 ≤ 128 * b.val
  omega

/-- The block a row is in. -/
def rowBlk (i : S512x1024.Idx) : Fin 4 := ⟨(i 0).val / 128, by have h : (i 0).val < 512 := (i 0).isLt; omega⟩
/-- A row's place in its block. -/
def rowIn (i : S512x1024.Idx) : S128x1024.Idx :=
  fun a => match a with
    | ⟨0, _⟩ => ⟨(i 0).val % 128, Nat.mod_lt _ (by decide)⟩
    | ⟨1, _⟩ => ⟨(i 1).val, (i 1).isLt⟩

/-- and fill it. -/
theorem rO_cover : (Finset.univ : Finset (Fin 4)).biUnion (fun b => (rO b).set) = Finset.univ := by
  refine Finset.eq_univ_iff_forall.mpr fun i => Finset.mem_biUnion.mpr ⟨rowBlk i, Finset.mem_univ _, ?_⟩
  refine Rect.mem_set_unit.mpr fun a => ?_
  fin_cases a
  · show 128 * ((i 0).val / 128) ≤ (i 0).val ∧ (i 0).val < 128 * ((i 0).val / 128) + 128
    omega
  · exact ⟨Nat.zero_le _, by have := (i 1).isLt; simpa using this⟩

/-- A buffer from its four blocks of rows. -/
def join (f : Fin 4 → RBlk F) : FVec F S512x1024 .bf16 := fun i => f (rowBlk i) (rowIn i)

/-- The block that a row of a block lies in. -/
theorem rowBlk_emb (b : Fin 4) (j : S128x1024.Idx) : rowBlk ((rO b).emb j) = b := by
  have h : (j 0).val < 128 := (j 0).isLt
  refine Fin.ext ?_
  show (128 * b.val + 1 * (j 0).val) / 128 = b.val
  omega

/-- The place of a row in its block. -/
theorem rowIn_emb (b : Fin 4) (j : S128x1024.Idx) : rowIn ((rO b).emb j) = j := by
  have h : (j 0).val < 128 := (j 0).isLt
  funext a
  fin_cases a
  · refine Fin.ext ?_
    show (128 * b.val + 1 * (j 0).val) % 128 = (j 0).val
    omega
  · refine Fin.ext ?_
    show 0 + 1 * (j 1).val = (j 1).val
    omega

/-- Four blocks joined, read at one of them. -/
theorem join_emb (f : Fin 4 → RBlk F) (b : Fin 4) : (fun j => join f ((rO b).emb j)) = f b :=
  funext fun j => by unfold join; rw [rowBlk_emb b j, rowIn_emb b j]

/-- A scratch buffer of any contents is its four slots of any contents, -/
theorem slots_of_whole (c : Dev nD) (m : Memref sig .tc .vmem S4x128x1024 .bf16) :
    (iprop(∃ X, owns (c : Thread nD τ) m fullShare X) : sProp 𝕄) ⊢ four fun b => anySlot (F := F) m b c := by
  have h (X) : (owns (c : Thread nD τ) m fullShare X : sProp 𝕄) ⊢ four fun b => anySlot (F := F) m b c := by
    refine (owns_rects (c : Thread nD τ) m fullShare rB (fun _ _ => rfl) rB_disjoint rB_cover X).trans ?_
    rw [← four_eq]
    have hb (b : Fin 4) : (owns (c : Thread nD τ) (m.slice (rB b) (fun _ => rfl)) fullShare (fun j => X ((rB b).emb j)) : sProp 𝕄) ⊢ anySlot (F := F) m b c := by
      show _ ⊢ iprop(∃ w : Blk F, owns (c : Thread nD τ) (m.slice (rB b) (fun _ => rfl)) fullShare w)
      iintro H; iexists _; iexact H
    exact bigSep_mono fun b _ => hb b
  iintro ⟨%X, H⟩
  iapply (h X)
  iexact H

/-- A block can hold something. -/
instance blk_nonempty : Nonempty (Blk F) := ⟨fun _ => (Elt.nonempty F .bf16).some⟩

/-- and back. -/
theorem whole_of_slots (c : Dev nD) (m : Memref sig .tc .vmem S4x128x1024 .bf16) :
    (four fun b => anySlot (F := F) m b c : sProp 𝕄) ⊢ iprop(∃ X, owns (c : Thread nD τ) m fullShare X) := by
  rw [← four_eq]
  refine (BI.bigSep_exists_pi Finset.univ (fun (b : Fin 4) (w : Blk F) => (slot m b c w : sProp 𝕄))).trans ?_
  iintro ⟨%Xs, H⟩
  iexists (Rect.glue rB rB_cover Xs)
  iapply (owns_of_rects (c : Thread nD τ) m fullShare rB (fun _ _ => rfl) rB_disjoint rB_cover (Rect.glue rB rB_cover Xs))
  rw [show (fun t : Fin 4 => owns (c : Thread nD τ) (m.slice (rB t) (fun _ => rfl)) fullShare (fun j => Rect.glue rB rB_cover Xs ((rB t).emb j)))
    = fun t => (slot m t c (Xs t) : sProp 𝕄) from funext fun t => by
      rw [show (fun j => Rect.glue rB rB_cover Xs ((rB t).emb j)) = Xs t from funext fun y => Rect.glue_emb rB rB_cover rB_disjoint Xs t y]; rfl]
  iexact H

/-- The result's buffer of any contents is its four blocks of rows of any contents, -/
theorem rows_of_whole (c : Dev nD) :
    (iprop(∃ X, owns (c : Thread nD τ) oM fullShare X) : sProp 𝕄) ⊢ four fun b => anyRow (F := F) b c := by
  have h (X) : (owns (c : Thread nD τ) oM fullShare X : sProp 𝕄) ⊢ four fun b => anyRow (F := F) b c := by
    refine (owns_rects (c : Thread nD τ) oM fullShare rO (fun _ _ => rfl) rO_disjoint rO_cover X).trans ?_
    rw [← four_eq]
    have hb (b : Fin 4) : (owns (c : Thread nD τ) (oM.slice (rO b) (fun _ => rfl)) fullShare (fun j => X ((rO b).emb j)) : sProp 𝕄) ⊢ anyRow (F := F) b c := by
      unfold anyRow row; iintro H; iexists _; iexact H
    exact bigSep_mono fun b _ => hb b
  iintro ⟨%X, H⟩
  iapply (h X)
  iexact H

/-- and its four blocks at `f` are the buffer at the joined contents. -/
theorem whole_of_rows (c : Dev nD) (f : Fin 4 → RBlk F) :
    (four fun b => row b c (f b) : sProp 𝕄) ⊢ owns (c : Thread nD τ) oM fullShare (join f) := by
  rw [← four_eq]
  iintro H
  iapply (owns_of_rects (c : Thread nD τ) oM fullShare rO (fun _ _ => rfl) rO_disjoint rO_cover (join f))
  rw [show (fun t : Fin 4 => owns (c : Thread nD τ) (oM.slice (rO t) (fun _ => rfl)) fullShare (fun j => join f ((rO t).emb j)))
    = fun t => (row t c (f t) : sProp 𝕄) from funext fun t => by rw [join_emb f t]; rfl]
  iexact H

/-- The four scratch buffers, each of any contents. -/
def scratchW (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- A whole buffer with any contents. -/
theorem whole_any (c : Dev nD) (b : Ref sig .tc) :
    (iprop(∃ f, ((c : Thread nD τ).loc b) ↦{fullShare} f) : sProp 𝕄) = iprop(∃ f, owns (c : Thread nD τ) (Memref.whole b) fullShare f) := by
  simp only [owns_whole]

/-- The scratch buffers split into blocks. -/
theorem scratch_split (c : Dev nD) : (scratchW c : sProp 𝕄) ⊢ scratch c := by
  unfold scratchW scratch
  rw [whole_any, whole_any, whole_any, whole_any]
  iintro ⟨H0, H1, H2, H3⟩
  isplitl [H0]; · iapply (slots_of_whole c yM); iexact H0
  isplitl [H1]; · iapply (slots_of_whole c psM); iexact H1
  isplitl [H2]; · iapply (slots_of_whole c r1M); iexact H2
  iapply (slots_of_whole c r2M); iexact H3

/-- The blocks join to the scratch buffers. -/
theorem scratch_join (c : Dev nD) : (scratch c : sProp 𝕄) ⊢ scratchW c := by
  unfold scratchW scratch
  rw [whole_any, whole_any, whole_any, whole_any]
  iintro ⟨H0, H1, H2, H3⟩
  isplitl [H0]; · iapply (whole_of_slots c yM); iexact H0
  isplitl [H1]; · iapply (whole_of_slots c psM); iexact H1
  isplitl [H2]; · iapply (whole_of_slots c r1M); iexact H2
  iapply (whole_of_slots c r2M); iexact H3

end Cert.KernelIdeal.Run
-- ==== Proof.Ideal.Region.lean ====
/-
  The kernel's region on a device: what its windows hold before and after, what it starts from and ends with, its body.
-/
module

public import proofs.«01_k».proof.Proof.Ideal.Stage

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat cellOf)

variable {F : FTy → Type} [FloatOps F] [Named F]

local notation "𝕄" => MT nD τ sig Unit (Elt F) ℕ UU ℕ

variable (m : (ℓ : Loc nD τ sig) → Buf (Elt F) ℓ)

/-! ## Families over the cells -/

/-- A conjunction over the optional names, the first taken out. -/
theorem opt_eq (Φ : CI → sProp 𝕄) : bigSep Finset.univ Φ = iprop(Φ none ∗ bigSep Finset.univ fun i : Fin 4 × Fin 4 => Φ (some i)) := by
  rw [show (Finset.univ : Finset CI) = insert none (Finset.univ.map Function.Embedding.some) from by decide, bigSep_insert (by decide), bigSep_map]
  rfl

/-- A conjunction over pairs, as fours. -/
theorem prod_eq (Φ : Fin 4 × Fin 4 → sProp 𝕄) :
    bigSep Finset.univ Φ = iprop(four (fun b => Φ (0, b)) ∗ four (fun b => Φ (1, b)) ∗ four (fun b => Φ (2, b)) ∗ four (fun b => Φ (3, b))) := by
  rw [bigSep_univ_prod, four_eq]
  simp only [four_eq]
  rfl

/-! ## What the windows hold -/

/-- The operands as the region finds them: the activations, the projections side by side, the output projection. -/
def Xm (c : Dev nD) : VX F := ((cfg0.win 0).blk t0_0).view.read (Elt F) (V1 m c (Proc.devRef .tc main_v15))
/-- The three projections side by side, as the region finds them. -/
def Wm (c : Dev nD) : VW F := ((cfg0.win 1).blk t0_0).view.read (Elt F) (V1 m c (Proc.devRef .tc main_v14))
/-- The output projection, as the region finds it. -/
def Om (c : Dev nD) : VO F := ((cfg0.win 2).blk t0_0).view.read (Elt F) (V1 m c (Proc.devRef .tc main_arg4))

/-- The result on device `c`: its four blocks of rows. -/
def outW (c : Dev nD) : FVec F S512x1024 .bf16 := join fun b => Ob (Xm m) (Wm m) (Om m) c b

/-! ## What the region starts from and ends with -/

/-- The semaphores the kernel declares. -/
abbrev osem : Fin 4 × Fin 4 → SemLoc sig := fun i => sl (some i)

/-- What the protocol gives device `c` before the body. -/
def start (c : Dev nD) : sProp 𝕄 := iprop((∃ K, recs (Xm m) (Wm m) (Om m) K c) ∗ ghostsB (F := F) c ∗ ghosts (F := F) c)

/-- The state before the one step. -/
def Φ₀ (c : Dev nD) : sProp 𝕄 := iprop(start m c ∗ scratchW (F := F) c ∗ ∃ r, prngReg c r)
/-- The state after the one step. -/
def Φ₁ (c : Dev nD) : sProp 𝕄 :=
  iprop((semVal (kcell c none) 0 ∗ bigSep Finset.univ fun i : Fin 4 × Fin 4 => semVal (kcell c (some i)) 0) ∗ scratchW (F := F) c ∗ ∃ r, prngReg c r)

/-- The region's data on device `c`. -/
def dat0 (c : Dev nD) : Dat τ (Elt F) Unit ℕ UU ℕ cfg0 c where
  A w := V1 m c (Proc.devRef .tc (Pipeline.arrRef spec0 w))
  after w _ := match w with
    | ⟨0, _⟩ => Xm m c
    | ⟨1, _⟩ => Wm m c
    | ⟨2, _⟩ => Om m c
    | ⟨3, _⟩ => outW m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The record of each call. -/
def pdats : (p : Fin 1) → (c : Dev nD) → Dat τ (Elt F) Unit ℕ UU ℕ (cfgs p) c
  | 0 => dat0 m

/-- The body finds the input in its first window. -/
theorem before0 (c : Dev nD) (d : (cfg0.win 0).block.Idx → Elt F (cfg0.win 0).elt) : (dat0 m c).before 0 t0_0 d = Xm m c := by
  unfold Dat.before; rw [if_pos (by decide)]; rfl
/-- The body finds the weights in its second window. -/
theorem before1 (c : Dev nD) (d : (cfg0.win 1).block.Idx → Elt F (cfg0.win 1).elt) : (dat0 m c).before 1 t0_0 d = Wm m c := by
  unfold Dat.before; rw [if_pos (by decide)]; rfl
/-- The body finds the output projection in its third window. -/
theorem before2 (c : Dev nD) (d : (cfg0.win 2).block.Idx → Elt F (cfg0.win 2).elt) : (dat0 m c).before 2 t0_0 d = Om m c := by
  unfold Dat.before; rw [if_pos (by decide)]; rfl

/-- What is owed at a step is the device's debt. -/
theorem owesAt_elim (c : Dev nD) (t : Fin (cfg0.N + 1)) (O : CellTallies nD τ sig Unit) (h0 : (dat0 (F := F) m c).owed t = O) :
    ((dat0 m c).owesAt () t : sProp 𝕄) ⊢ owing (F := F) c O := by
  unfold owing Dat.owesAt Pipeline.owesWithin; rw [h0]
  iintro ⟨%W, -, HO⟩
  iexists W; iexact HO

/-- The device's debt is what is owed at a step. -/
theorem owesAt_intro (c : Dev nD) (t : Fin (cfg0.N + 1)) (O : CellTallies nD τ sig Unit) (h0 : (dat0 (F := F) m c).owed t = O) :
    (owing (F := F) c O : sProp 𝕄) ⊢ (dat0 m c).owesAt () t := by
  unfold owing Dat.owesAt Pipeline.owesWithin Dat.bound
  rw [h0, show (dat0 (F := F) m c).recorded t = Set.univ from rfl]
  iintro ⟨%W, HO⟩
  iexists W; isplitr; · ipureintro; exact fun _ _ => Or.inl trivial
  iexact HO

/-- The device's cells, each past its round, are closed: every counter is at zero. -/
theorem close_all (K : Dev nD × CI → ℕ) (X : Dev nD → VX F) (Wt : Dev nD → VW F) (Wo : Dev nD → VO F) (c : Dev nD) :
    iprop(inv X Wt Wo K ∗ spent (F := F) c) ⊢ (|={Set.univ}=> iprop(semVal (kcell c none) 0 ∗ bigSep Finset.univ fun i : Fin 4 × Fin 4 => semVal (kcell c (some i)) 0) : sProp 𝕄) := by
  have h1 : (spent c : sProp 𝕄) = bigSep Finset.univ fun i : CI => atPos ER (kcell c i) 1 ∅ 0 := by
    rw [opt_eq, prod_eq]; rfl
  rw [h1, ← opt_eq (F := F) (fun i => semVal (kcell c i) 0)]
  refine (bigSep_with_persistent (R := inv X Wt Wo K)
    (Ψ := fun i : CI => iprop(cellInv ER (Rd (Yv X Wt Wo)) (K (c, i)) (kcell c i) ∗ atPos ER (kcell c i) 1 ∅ 0)) fun i _ => ?_).trans
    (Rounds.cells_close ER (Rd (Yv X Wt Wo)) Finset.univ (fun i : CI => kcell c i) (fun i => K (c, i)) (fun _ _ => Set.mem_univ _) (fun _ _ => id)
      (fun _ => 1) fun i _ => duties_later (Yv X Wt Wo) (kcell c i))
  iintro ⟨#HI, Ha⟩
  isplitr; · iapply (inv_at X Wt Wo K c i); iexact HI
  iexact Ha

set_option maxRecDepth 4000 in
/-- The body of the region on device `c`. -/
theorem body_obligation (c : Dev nD) : BodyObligation (dat0 (F := F) m c) (defs₀ (F := F)) 𝒱₀ () Set.univ := fun t => by
  obtain rfl := fin_N0 t
  rw [bigSep_W0, bigSep_W0]
  rw [show (dat0 m c).Φ t0_0.castSucc = Φ₀ m c from rfl, show (dat0 m c).Φ t0_0.succ = Φ₁ c from rfl]
  unfold Φ₀ Φ₁ start
  iintro ⟨⟨⟨⟨%K, #Hrecs⟩, HgB, Hg⟩, Hs, Hp⟩, HO, ⟨%d0, H0⟩, ⟨%d1, H1⟩, ⟨%d2, H2⟩, ⟨%d3, H3⟩⟩
  rw [before0, before1, before2]
  ihave HO' := (owesAt_elim m c t0_0.castSucc (O₀ c) rfl) $$ HO
  ihave Hs' := (scratch_split (F := F) c) $$ Hs
  iapply (wp_fupd frame (wpE (defs₀ (F := F)) 𝒱₀ (c : Thread nD τ) none) Set.univ)
  iapply (body_run (X := Xm m) (Wt := Wm m) (Wo := Om m) (K := K) c)
  isplitl [HgB Hg Hs' HO' H0 H1 H2 H3]
  · unfold bodyPre opnds
    isplitr; · iexact Hrecs
    isplitl [HgB]; · iexact HgB
    isplitl [Hg]; · iexact Hg
    isplitl [Hs']; · iexact Hs'
    isplitl [H0 H1 H2]
    · isplitl [H0]; · iexact H0
      isplitl [H1]; · iexact H1
      iexact H2
    isplitl [H3]
    · iapply (rows_of_whole (F := F) c)
      iexists _; iexact H3
    iexact HO'
  unfold bodyPost opnds
  iintro ⟨Hsp, Hs, ⟨H0, H1, H2⟩, Hr, HO⟩
  unfold recs
  icases Hrecs with ⟨#HI, -⟩
  imod (close_all K (Xm m) (Wm m) (Om m) c) $$ [Hsp] with Hz
  · isplitr; · iexact HI
    iexact Hsp
  imodintro
  isplitl [Hz Hs Hp]
  · isplitl [Hz]; · iexact Hz
    isplitl [Hs]; · iapply (scratch_join (F := F) c); iexact Hs
    iexact Hp
  isplitl [HO]; · iapply (owesAt_intro m c t0_0.succ 0 rfl); iexact HO
  isplitl [H0]; · iexact H0
  isplitl [H1]; · iexact H1
  isplitl [H2]; · iexact H2
  ihave H3 := (whole_of_rows c fun b => Ob (Xm m) (Wm m) (Om m) c b) $$ Hr
  iexact H3

end Cert.KernelIdeal.Run
-- ==== Proof.Ideal.Entry.lean ====
/-
  The region entered and left: its cells opened at the entry, the buffers of @main around it.
-/
module

public import proofs.«01_k».proof.Proof.Ideal.Region

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat cellOf)

variable {F : FTy → Type} [FloatOps F] [Named F]

local notation "𝕄" => MT nD τ sig Unit (Elt F) ℕ UU ℕ

variable (m : (ℓ : Loc nD τ sig) → Buf (Elt F) ℓ)

/-! ## What the launch keeps for the region -/

/-- The rights to pay the duties of the device's copies, and the credit of the copies it waits for. -/
def dues (c : Dev nD) : sProp 𝕄 :=
  iprop(four (fun b => iprop(dutyTok ER (kcell c (some (0, b))) 0 true ∗ dutyTok ER (kcell (p1 c) (some (1, b))) 0 true))
    ∗ four (fun b => iprop(dutyTok ER (kcell c (some (2, b))) 0 true ∗ dutyTok ER (kcell (p2 c) (some (3, b))) 0 true))
    ∗ four (fun b => cred (tallyAt (kcell c (some (1, b))) () N)) ∗ four (fun b => cred (tallyAt (kcell c (some (3, b))) () N)))

/-- The invariants and that the barrier cells of the device and of its partners are open. -/
def known (K : Dev nD × CI → ℕ) (c : Dev nD) : sProp 𝕄 :=
  iprop(inv (Xm m) (Wm m) (Om m) K ∗ reached ER (kcell c none) 0 ∗ reached ER (kcell (p1 c) none) 0 ∗ reached ER (kcell (p2 c) none) 0)

/-- What a device knows may be used again. -/
instance known_persistent (K : Dev nD × CI → ℕ) (c : Dev nD) : BI.Persistent (known m K c) := by unfold known; infer_instance

/-- What device `c` carries from the launch to the region. -/
def Tk (c : Dev nD) : sProp 𝕄 :=
  iprop((∃ K, known m K c) ∗ (bigSep Finset.univ fun i : Fin 4 × Fin 4 => openTok ER (kcell c (some i))) ∗ ghostsB (F := F) c ∗ dues (F := F) c)

/-- The cells of the declared semaphores are opened at the region's entry. -/
theorem hopen (c : Dev nD) : iprop(Tk m c ∗ Pipeline.ownSems0 osem c ∗ levAts L lv) ⊢ (|={Set.univ}=> start m c : sProp 𝕄) := by
  unfold Tk start known
  iintro ⟨⟨⟨%K, #HI, #HrB, #Hr1, #Hr2⟩, Hop, HgB, Hd⟩, Hs, #Hlev⟩
  ihave Hc := (bigSep_with_persistent (R := inv (Xm m) (Wm m) (Om m) K) (Φ := fun i : Fin 4 × Fin 4 => (openTok ER (kcell c (some i)) : sProp 𝕄))
    (S := Finset.univ) (Ψ := fun i : Fin 4 × Fin 4 => iprop(cellInv ER (Rd (Yv (Xm m) (Wm m) (Om m))) (K (c, some i)) (kcell c (some i)) ∗ openTok ER (kcell c (some i))))
    (fun i _ => by
      iintro ⟨#HI, Ho⟩
      isplitr; · iapply (inv_at (Xm m) (Wm m) (Om m) K c (some i)); iexact HI
      iexact Ho)) $$ [Hop]
  · isplitr; · iexact HI
    iexact Hop
  ihave Hs' := (show Pipeline.ownSems0 osem c ⊢ (bigSep Finset.univ fun i : Fin 4 × Fin 4 => semVal (kcell c (some i)) 0 : sProp 𝕄) from .rfl) $$ Hs
  imod (Rounds.cells_open ER (Rd (Yv (Xm m) (Wm m) (Om m))) Finset.univ (fun i : Fin 4 × Fin 4 => kcell c (some i)) (fun i => K (c, some i)) (Es := Set.univ)
    (fun _ _ => Set.mem_univ _)) $$ [Hc Hs'] with H
  · isplitl [Hc]; · iexact Hc
    iexact Hs'
  ihave H' := (Entails.of_eq (bigSep_sep' Finset.univ (fun i : Fin 4 × Fin 4 => (atPos ER (kcell c (some i)) 0 ∅ 0 : sProp 𝕄)) fun i => reached ER (kcell c (some i)) 0)) $$ H
  icases H' with ⟨Hat, #Hre⟩
  ihave Hat' := (Entails.of_eq (prod_eq (F := F) fun i => atPos ER (kcell c (some i)) 0 ∅ 0)) $$ Hat
  icases Hat' with ⟨Ha0, Ha1, Ha2, Ha3⟩
  imodintro
  isplitr
  · iexists K
    unfold recs
    rw [opt_eq (F := F) fun i => reached ER (kcell c i) 0]
    isplitr; · iexact HI
    isplitr
    · isplitr; · iexact HrB
      iexact Hre
    isplitr; · iexact Hr1
    isplitr; · iexact Hr2
    iexact Hlev
  isplitl [HgB]; · iexact HgB
  unfold ghosts dues
  isplitl [Ha0]; · iexact Ha0
  isplitl [Ha1]; · iexact Ha1
  isplitl [Ha2]; · iexact Ha2
  isplitl [Ha3]; · iexact Ha3
  iexact Hd

/-- The facts about the staging windows that the launch needs. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed inside the call lies above the staging semaphores. -/
theorem cutD (c : Dev nD) (t : Fin (cfg0.N + 1)) (g : GSem nD τ sig) (i : Unit) (h : 0 < (dat0 (F := F) m c).owed t g i) :
    i ∈ L g ∧ (0 : ℕ) < lv g i := by
  match t, h with
  | ⟨0, _⟩, h => exact O₀_pos h
  | ⟨_ + 1, _⟩, h => exact absurd h (Nat.lt_irrefl 0)

/-- The other buffers of @main, which the region leaves alone. -/
abbrev others : Finset (DevRef τ sig) := Pipeline.ucRefs τ sig \ Pipeline.arrRefs (τ := τ) spec0

/-- What the region leaves in the array of its result. -/
def finalA (c : Dev nD) : Buf (Elt F) ((c : Thread nD τ).loc main_v16) := (dat0 m c).arrAt 3 cfg0.N

/-- And so what the regions of @main leave. -/
def outs : Outs (F := F) := fun _ r c => if h : r = main_v16 then h ▸ finalA m c else m ((c : Thread nD τ).loc r)

/-- After the call its result array holds what the run names. -/
theorem V2_v16 (c : Dev nD) : V2 m (outs m) c (Proc.devRef .tc main_v16) = finalA m c := by
  simp only [V2, Function.update_self, outs]
  rfl

/-- Every window array after the call holds what the run names. -/
theorem hW' (c : Dev nD) (w : Fin 4) : (dat0 m c).arrAt w cfg0.N = V2 m (outs m) c (Proc.devRef .tc (Pipeline.arrRef spec0 w)) := by
  match w with
  | ⟨0, _⟩ => exact ((dat0 m c).arrAt_in 0 rfl _).trans (V2_of m (outs m) c main_v15 (by decide)).symm
  | ⟨1, _⟩ => exact ((dat0 m c).arrAt_in 1 rfl _).trans (V2_of m (outs m) c main_v14 (by decide)).symm
  | ⟨2, _⟩ => exact ((dat0 m c).arrAt_in 2 rfl _).trans (V2_of m (outs m) c main_arg4 (by decide)).symm
  | ⟨3, _⟩ => exact (V2_v16 m c).symm

/-- The call changes no other array. -/
theorem hrest (c : Dev nD) (b : DevRef τ sig) (hb : b ∈ others) : V2 m (outs m) c b = V1 m c b := by
  refine Function.update_of_ne (fun e => ?_) _ _
  subst e
  exact (Finset.mem_sdiff.mp hb).2 (by decide)

/-- What the call is entered with makes the state before its one step. -/
theorem hin (c : Dev nD) : iprop(Pipeline.scopedRest spec0 c ∗ (∃ r, prngReg c r) ∗ StableHlo.held (c.tc : Thread nD τ) ∅ (V1 m c) ∗ start m c)
    ⊢ (dat0 m c).Φ 0 := by
  rw [show (dat0 m c).Φ 0 = Φ₀ m c from rfl, scopedRest0_eq]
  unfold Φ₀ scratchW
  iintro ⟨Hs, Hp, -, Hst⟩
  isplitl [Hst]; · iexact Hst
  isplitl [Hs]; · iexact Hs
  iexact Hp

/-- The state after its one step makes what the call is left with. -/
theorem hout (c : Dev nD) : (dat0 m c).Φ (Fin.last cfg0.N)
    ⊢ iprop(Pipeline.scopedRest spec0 c ∗ (∃ r, prngReg c r) ∗ StableHlo.held (c.tc : Thread nD τ) ∅ (V2 m (outs m) c) ∗ Pipeline.ownSems0 osem c
      ∗ semVal (kcell c none) 0) := by
  rw [show (dat0 m c).Φ (Fin.last _) = Φ₁ c from rfl, scopedRest0_eq]
  unfold Φ₁ scratchW StableHlo.held Pipeline.ownSems0
  rw [bigSep_empty]
  iintro ⟨⟨Hb, Hz⟩, Hs, Hp⟩
  isplitl [Hs]; · iexact Hs
  isplitl [Hp]; · iexact Hp
  isplitr; · iempintro
  isplitl [Hz]; · iexact Hz
  iexact Hb

/-- The staging semaphores have the lowest level. -/
theorem stage_lv : ∀ (w : Fin 4) (s : Fin (spec0 w).nbuf), lvS (.dma ((spec0 w).sem s)) = 0 := by decide

set_option backward.isDefEq.respectTransparency.types false in
/-- The region of @main. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_obligation m c).loose)
    (fun _ => 0) O₀ (fun c => (zero_add (O₀ c)).symm) (fun _ => rfl) (fun _ => rfl) (fun c w => (dat0 m c).share_full (fun _ => rfl) w)
    (V1 m) (V2 m (outs m)) (fun c b hb => hrest m c b (Finset.sdiff_subset hb))
    (Tk m) (fun c => semVal (kcell c none) 0) (start m) (fun c => semVal (kcell c none) 0) (hopen m)
    (hin m) (hout m)
    (fun c => by iintro H; imodintro; iexact H)
    (fun _ => 0)
    ⟨fun c w s => by rw [L_tc]; exact Finset.mem_singleton_self _,
      fun c w s => le_of_eq (stage_lv w s), fun c t g i h => cutD m c t g i h⟩
    (fun _ => iprop(emp))
    (fun c w => rfl) (fun c w => hW' m c w)

/-- The held arrays are the windows and the others. -/
theorem held_split (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) others W) :=
  StableHlo.held_sub_split (c.tc : Thread nD τ) (Pipeline.arrRefs_sub_ucRefs spec0 (by decide)) W

/-- What rides beside the buffers before the region, and after it. -/
def rest0 (c : Dev nD) : sProp 𝕄 := iprop((∃ r, prngReg c r) ∗ Tk m c ∗ owing (F := F) c (O₀ c))
/-- What rides beside the buffers after the region. -/
def rest1 (c : Dev nD) : sProp 𝕄 := iprop(semVal (kcell c none) 0 ∗ owing (F := F) c 0)

/-- The arrays and the rest before the call are what the call needs. -/
theorem reg0_pre (c : Dev nD) : iprop(StableHlo.held (c : Thread nD τ) (Pipeline.ucRefs τ sig) (V1 m c) ∗ rest0 m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [held_split, zero_add]
  unfold rest0 owing
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

/-- What the call leaves is the arrays and the rest after it. -/
theorem reg0_post (c : Dev nD) : (reg0 m).post c ⊢ iprop(StableHlo.held (c : Thread nD τ) (Pipeline.ucRefs τ sig) (V2 m (outs m) c) ∗ rest1 (F := F) c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (kcell c none) 0 ∗ ∃ Wd, owes (c : Thread nD τ) (0 : CellTallies nD τ sig Unit) Wd) ⊢ _
  rw [held_split]
  unfold rest1 owing
  iintro ⟨Ha, -, ⟨Ho, -⟩, Hb, HO⟩
  isplitl [Ha Ho]
  · isplitl [Ha]; · iexact Ha
    iexact Ho
  isplitl [Hb]; · iexact Hb
  iexact HO

end Cert.KernelIdeal.Run
-- ==== Proof.Ideal.Launch.lean ====
/-
  The launch: every cell's invariant made, the rights and the credit dealt to the devices.
-/
module

public import proofs.«01_k».proof.Proof.Ideal.Entry

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

/-- Different names stand for different semaphores. -/
theorem sl_inj : Function.Injective sl := by decide

/-- Different devices or names stand for different cells. -/
theorem cell_eq (c c' : Dev nD) (i i' : CI) : kcell c i = kcell c' i' ↔ c = c' ∧ i = i' :=
  ⟨fun h => ⟨congrArg (fun g : GSem nD τ sig => g.1.1) h, sl_inj (congrArg Prod.snd h)⟩, fun ⟨h, h'⟩ => by rw [h, h']⟩

/-- The barrier cells, by device. -/
def barEmb : Dev nD ↪ GSem nD τ sig := ⟨fun c => kcell c none, fun c c' h => ((cell_eq c c' none none).mp h).1⟩
/-- The copy cells, by device, role and block. -/
def dmaEmb : Dev nD × (Fin 4 × Fin 4) ↪ GSem nD τ sig :=
  ⟨fun x => kcell x.1 (some x.2), fun x y h => by
    obtain ⟨h1, h2⟩ := (cell_eq _ _ _ _).mp h
    exact Prod.ext h1 (Option.some.inj h2)⟩

/-- The barrier cells, and the cells of the declared semaphores. -/
abbrev barCells : Finset (GSem nD τ sig) := Finset.univ.map barEmb
/-- The cells of the copy semaphores. -/
abbrev dmaCells : Finset (GSem nD τ sig) := Finset.univ.map dmaEmb

/-- No barrier cell is a copy cell. -/
theorem cells_disjoint : Disjoint barCells dmaCells := by
  rw [Finset.disjoint_left]
  rintro g h₁ h₂
  obtain ⟨c, -, rfl⟩ := Finset.mem_map.mp h₁
  obtain ⟨x, -, h⟩ := Finset.mem_map.mp h₂
  exact Option.some_ne_none _ ((cell_eq _ _ _ _).mp h).2

/-- Every named cell is among them. -/
theorem cell_mem (c : Dev nD) (i : CI) : kcell c i ∈ barCells ∪ dmaCells := by
  match i with
  | none => exact Finset.mem_union_left _ (Finset.mem_map_of_mem barEmb (Finset.mem_univ c))
  | some i => exact Finset.mem_union_right _ (Finset.mem_map_of_mem dmaEmb (Finset.mem_univ (c, i)))

/-- The duties of a device's cells: `none` and `some none` the two of its barrier cell, the others that of cell `i`. -/
abbrev TI : Type := Option CI
/-- The semaphore that a token is for. -/
abbrev tsem : TI → SemLoc sig
  | none => sl none
  | some i => sl i
/-- The duty that a token stands for. -/
abbrev tduty : TI → Bool
  | none => false
  | some _ => true
/-- Different tokens stand for different duties. -/
theorem tok_inj : Function.Injective (fun k : TI => (tsem k, tduty k)) := by decide
/-- The tokens, by device and duty. -/
def toksEmb : Dev nD × TI ↪ GSem nD τ sig × ℕ × Bool :=
  ⟨fun x => (((x.1 : Thread nD τ), tsem x.2), 0, tduty x.2), fun x y h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2.2) h)))⟩
/-- Every token of every device. -/
def allToks : Finset (GSem nD τ sig × ℕ × Bool) := Finset.univ.map toksEmb

/-- The launch's element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The protocol's element is handed over whole, at device 0. -/
def G (c : Dev nD) : sProp 𝕄 := if c = 0 then BI.own (ER (launchOf barCells dmaCells allToks)) else iprop(emp)

/-- The devices' shares are the whole of the launch's ghost state. -/
theorem G_eq : bigSep Finset.univ (G (F := F)) = BI.own (ER (launchOf barCells dmaCells allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-! ## The tokens dealt -/

/-- Four pairs are a pair of fours. -/
theorem four_sep (f g : Fin 4 → sProp 𝕄) : (four fun b => iprop(f b ∗ g b)) = iprop(four f ∗ four g) := by
  rw [← four_eq, ← four_eq, ← four_eq, bigSep_sep']

/-- A conjunction over the optional names, the first taken out. -/
theorem optC_eq (Φ : TI → sProp 𝕄) : bigSep Finset.univ Φ = iprop(Φ none ∗ bigSep Finset.univ fun i : CI => Φ (some i)) := by
  rw [show (Finset.univ : Finset TI) = insert none (Finset.univ.map Function.Embedding.some) from by decide, bigSep_insert (by decide), bigSep_map]
  rfl

/-- A device's tokens as they are made, at its own cells. -/
def made (c : Dev nD) : sProp 𝕄 :=
  iprop(dutyTok ER (kcell c none) 0 false ∗ dutyTok ER (kcell c none) 0 true
    ∗ four (fun b => dutyTok ER (kcell c (some (0, b))) 0 true) ∗ four (fun b => dutyTok ER (kcell c (some (1, b))) 0 true)
    ∗ four (fun b => dutyTok ER (kcell c (some (2, b))) 0 true) ∗ four (fun b => dutyTok ER (kcell c (some (3, b))) 0 true))

/-- And as the device uses them, at its own cells and at its partners'. -/
def dealt (c : Dev nD) : sProp 𝕄 :=
  iprop(dutyTok ER (kcell (p2 c) none) 0 false ∗ dutyTok ER (kcell (p1 c) none) 0 true
    ∗ four (fun b => dutyTok ER (kcell c (some (0, b))) 0 true) ∗ four (fun b => dutyTok ER (kcell (p1 c) (some (1, b))) 0 true)
    ∗ four (fun b => dutyTok ER (kcell c (some (2, b))) 0 true) ∗ four (fun b => dutyTok ER (kcell (p2 c) (some (3, b))) 0 true))

/-- All tokens, grouped by the device whose cell they name. -/
theorem made_eq : bigSep allToks (fun x => (dutyTok ER x.1 x.2.1 x.2.2 : sProp 𝕄)) = bigSep Finset.univ fun c : Dev nD => made (F := F) c := by
  unfold allToks; rw [bigSep_map, bigSep_univ_prod]
  refine bigSep_congr fun c _ => ?_
  unfold made
  rw [optC_eq, opt_eq, prod_eq]
  rfl

/-- The same tokens, grouped by the device that holds them. -/
theorem dealt_eq : (bigSep Finset.univ fun c : Dev nD => made (F := F) c) = bigSep Finset.univ fun c : Dev nD => dealt (F := F) c := by
  unfold made dealt
  simp only [bigSep_sep']
  rw [bigSep_univ_equiv e2 (fun c : Dev nD => (dutyTok ER (kcell c none) 0 false : sProp 𝕄)),
    bigSep_univ_equiv e1 (fun c : Dev nD => (dutyTok ER (kcell c none) 0 true : sProp 𝕄)),
    bigSep_univ_equiv e1 (fun c : Dev nD => (four (fun b => dutyTok ER (kcell c (some (1, b))) 0 true) : sProp 𝕄)),
    bigSep_univ_equiv e2 (fun c : Dev nD => (four (fun b => dutyTok ER (kcell c (some (3, b))) 0 true) : sProp 𝕄))]
  rfl

/-! ## The credit dealt -/

/-- What a device owes another's barrier: one signal to each of its two partners. -/
theorem owed_bar (d c : Dev nD) : O₀ d (kcell c none) () = (if d = p1 c then 1 else 0) + (if d = p2 c then 1 else 0) := by
  unfold O₀
  simp only [Pi.add_apply, Finsupp.add_apply, owe, order, tallyAt_apply, cell_eq, Pi.zero_apply, Finsupp.zero_apply]
  revert d c; decide

/-- What a device owes another's first receive cell: a block, to its first partner. -/
theorem owed_one (d c : Dev nD) (b : Fin 4) : O₀ d (kcell c (some (1, b))) () = if d = p1 c then N else 0 := by
  unfold O₀
  simp only [Pi.add_apply, Finsupp.add_apply, owe, order, tallyAt_apply, cell_eq, Pi.zero_apply, Finsupp.zero_apply]
  generalize N = n
  fin_cases d <;> fin_cases c <;> fin_cases b <;> simp (config := { decide := true }) [dest, p1, p2]

/-- What a device owes another's second receive cell: a block, to its second partner. -/
theorem owed_three (d c : Dev nD) (b : Fin 4) : O₀ d (kcell c (some (3, b))) () = if d = p2 c then N else 0 := by
  unfold O₀
  simp only [Pi.add_apply, Finsupp.add_apply, owe, order, tallyAt_apply, cell_eq, Pi.zero_apply, Finsupp.zero_apply]
  generalize N = n
  fin_cases d <;> fin_cases c <;> fin_cases b <;> simp (config := { decide := true }) [dest, p1, p2]

/-- The credit of a cell at launch is what all devices owe it. -/
theorem launch_at (c : Dev nD) (i : CI) (n : ℕ) (h : ∑ d : Dev nD, O₀ d (kcell c i) () = n) :
    tallyOn (kcell c i) (launchCredit (Pipeline.owing O₀) 0 (kcell c i)) = (tallyAt (kcell c i) () n : CellTallies nD τ sig Unit) := by
  unfold tallyAt; refine congrArg _ (Finsupp.ext fun u => ?_); cases u
  rw [Pipeline.launchCredit_owing, Finsupp.single_eq_same, h]

/-- All devices owe a device's barrier two signals. -/
theorem launch_bar (c : Dev nD) : ∑ d : Dev nD, O₀ d (kcell c none) () = 2 := by
  rw [Finset.sum_congr rfl fun d _ => owed_bar d c, Finset.sum_add_distrib, Finset.sum_ite_eq', Finset.sum_ite_eq', if_pos (Finset.mem_univ _), if_pos (Finset.mem_univ _)]
/-- All devices owe a device's first receive cell one block. -/
theorem launch_one (c : Dev nD) (b : Fin 4) : ∑ d : Dev nD, O₀ d (kcell c (some (1, b))) () = N := by
  rw [Finset.sum_congr rfl fun d _ => owed_one d c b, Finset.sum_ite_eq', if_pos (Finset.mem_univ _)]
/-- All devices owe a device's second receive cell one block. -/
theorem launch_three (c : Dev nD) (b : Fin 4) : ∑ d : Dev nD, O₀ d (kcell c (some (3, b))) () = N := by
  rw [Finset.sum_congr rfl fun d _ => owed_three d c b, Finset.sum_ite_eq', if_pos (Finset.mem_univ _)]

/-- The launch's credit of a device: the two units of its barrier cell and the eight copies that arrive. -/
theorem creds (c : Dev nD) :
    (Pipeline.launchCred O₀ c : sProp 𝕄) ⊢ iprop(cred (tallyAt (kcell c none) () 2) ∗ four (fun b => cred (tallyAt (kcell c (some (1, b))) () N))
      ∗ four (fun b => cred (tallyAt (kcell c (some (3, b))) () N))) := by
  unfold Pipeline.launchCred
  refine (bigSep_subset (Finset.subset_univ (Finset.univ.map ⟨sl, sl_inj⟩))).trans ?_
  rw [bigSep_map, opt_eq, prod_eq]
  have h1 : (fun b : Fin 4 => (cred (tallyOn (kcell c (some (1, b))) (launchCredit (Pipeline.owing O₀) 0 (kcell c (some (1, b))))) : sProp 𝕄))
    = fun b => cred (tallyAt (kcell c (some (1, b))) () N) := funext fun b => by rw [launch_at c _ N (launch_one c b)]
  have h3 : (fun b : Fin 4 => (cred (tallyOn (kcell c (some (3, b))) (launchCredit (Pipeline.owing O₀) 0 (kcell c (some (3, b))))) : sProp 𝕄))
    = fun b => cred (tallyAt (kcell c (some (3, b))) () N) := funext fun b => by rw [launch_at c _ N (launch_three c b)]
  rw [← h1, ← h3, ← launch_at c none 2 (launch_bar c)]
  have hdrop (A B C D E : sProp 𝕄) : iprop(A ∗ B ∗ C ∗ D ∗ E) ⊢ iprop(A ∗ C ∗ E) := by
    iintro ⟨Hb, -, H1, -, H3⟩
    isplitl [Hb]; · iexact Hb
    isplitl [H1]; · iexact H1
    iexact H3
  exact hdrop _ _ _ _ _

/-! ## The launch -/

/-- The one semaphore outside any scope is the barrier. -/
theorem unscopedSems0_eq (c : Dev nD) : (unscopedSems0 c : sProp 𝕄) = semVal (kcell c none) 0 := by
  unfold unscopedSems0; rw [bigSep_eq_bigSepL_of_eq [SemLoc.reg barS] (by decide) (by decide)]; rfl

/-- What every device may consult: the invariants under one map of names, and that the barrier cells are open. -/
def records (κ : GSem nD τ sig → ℕ) : sProp 𝕄 :=
  iprop((bigSep (barCells ∪ dmaCells) fun g => cellInv ER (Rd (Yv (Xm m) (Wm m) (Om m))) (κ g) g) ∗ bigSep barCells fun g => reached ER g 0)

/-- The records may be used again. -/
instance records_persistent (κ : GSem nD τ sig → ℕ) : BI.Persistent (records m κ) := by unfold records; infer_instance

/-- The records hold every cell's invariant. -/
theorem records_inv (κ : GSem nD τ sig → ℕ) : records m κ ⊢ inv (Xm m) (Wm m) (Om m) fun i => κ (kcell i.1 i.2) := by
  unfold inv
  refine (BI.bigSep_of_persistent (Finset.univ : Finset (Dev nD × CI)) (records m κ)).trans (bigSep_mono fun i _ => ?_)
  have h : (bigSep (barCells ∪ dmaCells) fun g => (cellInv ER (Rd (Yv (Xm m) (Wm m) (Om m))) (κ g) g : sProp 𝕄))
      ⊢ cellInv ER (Rd (Yv (Xm m) (Wm m) (Om m))) (κ (kcell i.1 i.2)) (kcell i.1 i.2) := bigSep_elim (cell_mem i.1 i.2)
  unfold records
  refine Idealize.SL.BI.Entails.trans ?_ h
  exact Idealize.SL.BI.sep_and.trans Idealize.SL.BI.and_elimL

/-- The records hold that a barrier has reached its round. -/
theorem records_reached (κ : GSem nD τ sig → ℕ) (c : Dev nD) : records m κ ⊢ reached ER (kcell c none) 0 := by
  have h : (bigSep barCells fun g => (reached ER g 0 : sProp 𝕄)) ⊢ reached ER (kcell c none) 0 :=
    bigSep_elim (Finset.mem_map_of_mem barEmb (Finset.mem_univ c))
  unfold records
  iintro ⟨-, H⟩
  iapply h; iexact H

/-- The records hold what a device knows. -/
theorem records_known (κ : GSem nD τ sig → ℕ) (c : Dev nD) : records m κ ⊢ iprop(∃ K, known m K c) := by
  unfold known
  iintro #H
  iexists (fun i => κ (kcell i.1 i.2))
  isplitr; · iapply (records_inv m κ); iexact H
  isplitr; · iapply (records_reached m κ c); iexact H
  isplitr; · iapply (records_reached m κ (p1 c)); iexact H
  iapply (records_reached m κ (p2 c)); iexact H

/-- What of the launch's ghost state stays with device `c`. -/
def linear (c : Dev nD) : sProp 𝕄 :=
  iprop(atPos ER (kcell c none) 0 ∅ 0 ∗ (bigSep Finset.univ fun i : Fin 4 × Fin 4 => openTok ER (kcell c (some i))) ∗ dealt (F := F) c)

/-- And of the rest. -/
def bundle (c : Dev nD) : sProp 𝕄 :=
  iprop((cred (tallyAt (kcell c none) () 2) ∗ four (fun b => cred (tallyAt (kcell c (some (1, b))) () N))
      ∗ four (fun b => cred (tallyAt (kcell c (some (3, b))) () N)))
    ∗ owes (c : Thread nD τ) (O₀ c) ∅ ∗ ∃ r, prngReg c r)

/-- The records and a device's share make what it starts with. -/
theorem rest0_intro (κ : GSem nD τ sig → ℕ) (c : Dev nD) : iprop(records m κ ∗ (linear (F := F) c ∗ bundle (F := F) c)) ⊢ rest0 m c := by
  unfold linear bundle rest0 Tk owing dealt dues ghostsB
  rw [four_sep, four_sep]
  iintro ⟨#HR, ⟨Hat, Hop, Htf, Htt, Ht0, Ht1, Ht2, Ht3⟩, ⟨Hcb, Hc1, Hc3⟩, HO, Hp⟩
  isplitl [Hp]; · iexact Hp
  isplitr [HO]
  · isplitr; · iapply (records_known m κ c); iexact HR
    isplitl [Hop]; · iexact Hop
    isplitl [Htf Htt Hcb Hat]
    · isplitl [Htt]; · iexact Htt
      isplitl [Htf]; · iexact Htf
      isplitl [Hcb]; · iexact Hcb
      iexact Hat
    isplitl [Ht0 Ht1]
    · isplitl [Ht0]; · iexact Ht0
      iexact Ht1
    isplitl [Ht2 Ht3]
    · isplitl [Ht2]; · iexact Ht2
      iexact Ht3
    isplitl [Hc1]; · iexact Hc1
    iexact Hc3
  iexists ∅; iexact HO

/-- The launch sets up what every device starts with. -/
theorem launch_rest :
    (bigSep Finset.univ fun c : Dev nD => iprop(unscopedSems0 c ∗ owes (c : Thread nD τ) (O₀ c) ∅ ∗ Pipeline.launchCred O₀ c ∗ prngReg c (ρ c) ∗ G (F := F) c))
      ⊢ (|={Set.univ}=> bigSep Finset.univ (rest0 m) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(bundle (F := F) c ∗ (semVal (kcell c none) 0 ∗ G (F := F) c)) : sProp 𝕄) := by
    rw [unscopedSems0_eq]
    unfold bundle
    iintro ⟨Hus, HO, Hcr, Hp, HG⟩
    isplitl [HO Hcr Hp]
    · isplitl [Hcr]; · iapply (creds (F := F) c); iexact Hcr
      isplitl [HO]; · iexact HO
      iexists (ρ c); iexact Hp
    isplitl [Hus] <;> iassumption
  have hv : bigSep Finset.univ (fun c : Dev nD => (semVal (kcell c none) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (kcell c none) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun i : Fin 4 × Fin 4 => (openTok ER (kcell c (some i)) : sProp 𝕄)) :=
    Entails.of_eq (by rw [bigSep_map, bigSep_univ_prod]; rfl)
  have htk : bigSep allToks (fun x => (dutyTok ER x.1 x.2.1 x.2.2 : sProp 𝕄)) ⊢ bigSep Finset.univ fun c : Dev nD => dealt (F := F) c :=
    Entails.of_eq (made_eq.trans dealt_eq)
  have hmain : iprop((bigSep Finset.univ fun c : Dev nD => bundle (F := F) c) ∗ (bigSep Finset.univ fun c : Dev nD => (semVal (kcell c none) 0 : sProp 𝕄))
      ∗ bigSep Finset.univ fun c : Dev nD => G (F := F) c) ⊢ (|={Set.univ}=> bigSep Finset.univ (rest0 m) : sProp 𝕄) := by
    iintro ⟨HB, Hv, HG⟩
    ihave Hu := (Entails.of_eq (G_eq (F := F))) $$ HG
    imod (Rounds.fund_launch ER (Rd (Yv (Xm m) (Wm m) (Om m))) cells_disjoint (fun g _ h => h) allToks) $$ [Hv Hu] with ⟨%κ, -, #Hinv, #Hr, Hat, Hopen, Htok⟩
    · isplitl [Hv]
      · iapply hv $$ Hv
      · iexact Hu
    imodintro
    iapply (bigSep_with_persistent (R := records m κ) (Φ := fun c => iprop(linear (F := F) c ∗ bundle (F := F) c)) fun c _ => rest0_intro m κ c)
    isplitr
    · unfold records
      isplitr; · iexact Hinv
      iexact Hr
    rw [bigSep_sep']
    isplitr [HB]
    · unfold linear
      rw [bigSep_sep', bigSep_sep']
      isplitl [Hat]; · iapply hat $$ Hat
      isplitl [Hopen]; · iapply hop $$ Hopen
      iapply htk $$ Htok
    · iexact HB

  refine BI.Entails.trans (bigSep_mono fun c _ => hcore c) ?_
  rw [bigSep_sep', bigSep_sep']
  exact hmain

end Cert.KernelIdeal.Run
-- ==== Proof.Ideal.Run.lean ====
/-
  The run of @main: the launch theorem at the region's record.
-/
module

public import proofs.«01_k».proof.Proof.Ideal.Launch

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The ghost state at the start splits into its two parts. -/
theorem hu₀ : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀
  rw [G_eq]
  iintro H
  ihave H' := (ownU_pair _ _) $$ H
  imodintro
  iexact H'

/-- What rides beside the buffers, by the number of regions passed. -/
def rest : Fin 2 → Dev nD → sProp 𝕄
  | 0 => rest0 m
  | 1 => rest1

/-- The state a device ends in. -/
def last (c : Dev nD) : sProp 𝕄 :=
  iprop(StableHlo.held (c : Thread nD τ) (Pipeline.ucRefs τ sig) (V3 m (outs m) c) ∗ semVal (kcell c none) 0)

/-- What the last segment leaves is the end state. -/
theorem last_intro (c : Dev nD) :
    iprop(StableHlo.held (c : Thread nD τ) (Pipeline.ucRefs τ sig) (V3 m (outs m) c) ∗ rest1 (F := F) c)
      ⊢ iprop(last m c ∗ ∃ W, owes (c.tc : Thread nD τ) (0 : CellTallies nD τ sig Unit) W) := by
  unfold last rest1 owing
  iintro ⟨Hh, Hb, HO⟩
  isplitr [HO]
  · isplitl [Hh] <;> iassumption
  iexact HO

/-- What a device's memory and barrier cell hold at the end. -/
def endsAt (c : Dev nD) (s : MemSt nD τ sig (Elt F)) : Prop :=
  s.mem ((c.tc : Thread nD τ).loc main_v17) = V3 m (outs m) c (Proc.devRef .tc main_v17)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

/-- The end state gives the result, the arguments and the barrier at zero. -/
theorem last_elim (c : Dev nD) (s' : Phys nD τ sig (Elt F)) :
    iprop(last m c ∗ SI s') ⊢ (|={Set.univ}=> iprop(⌜endsAt m c s'.mem ∧ s'.mem.sem (kcell c none) = 0⌝ ∗ SI s') : sProp 𝕄) := by
  unfold last StableHlo.held
  iintro ⟨⟨Hh, Hb⟩, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  icombine HSI Hb gives %hb
  imodintro
  isplitr
  · ipureintro
    refine ⟨⟨?_, ?_, ?_, ?_, ?_, ?_⟩, by simpa using hb⟩
    · exact h (Proc.devRef .tc main_v17) (Finset.mem_filter.mpr ⟨StableHlo.devRef_mem_tcRefs main_v17, by decide⟩)
    · exact (h (Proc.devRef .tc main_arg0) (Finset.mem_filter.mpr ⟨StableHlo.devRef_mem_tcRefs main_arg0, by decide⟩)).trans (V3_main_arg0 m (outs m) c)
    · exact (h (Proc.devRef .tc main_arg1) (Finset.mem_filter.mpr ⟨StableHlo.devRef_mem_tcRefs main_arg1, by decide⟩)).trans (V3_main_arg1 m (outs m) c)
    · exact (h (Proc.devRef .tc main_arg2) (Finset.mem_filter.mpr ⟨StableHlo.devRef_mem_tcRefs main_arg2, by decide⟩)).trans (V3_main_arg2 m (outs m) c)
    · exact (h (Proc.devRef .tc main_arg3) (Finset.mem_filter.mpr ⟨StableHlo.devRef_mem_tcRefs main_arg3, by decide⟩)).trans (V3_main_arg3 m (outs m) c)
    · exact (h (Proc.devRef .tc main_arg4) (Finset.mem_filter.mpr ⟨StableHlo.devRef_mem_tcRefs main_arg4, by decide⟩)).trans (V3_main_arg4 m (outs m) c)
  · iexact HSI

/-- The one semaphore outside any scope is the barrier. -/
theorem unscoped_eq : ∀ sm : SemLoc sig, sm.isScoped .tc = false → sm = .reg barS := by decide

/-- With every device's barrier cell back at zero, every counter is. -/
theorem all_zero (s : MemSt nD τ sig (Elt F)) (hb : ∀ c, s.sem (kcell c none) = 0)
    (hs : ∀ g' : GSem nD τ sig, (g'.1.2 ≠ .tc ∨ g'.2.isScoped .tc = true) → s.sem g' = 0) : s.sem = fun _ => 0 := by
  funext g
  by_cases h : g.1.2 ≠ .tc ∨ g.2.isScoped .tc = true
  · exact hs g h
  · obtain ⟨⟨d, q⟩, sm⟩ := g
    rw [not_or, not_not, Bool.not_eq_true] at h
    obtain ⟨rfl, h2⟩ := h
    obtain rfl := unscoped_eq sm h2
    exact hb d

/-- The launch gives every device its arrays and what it starts with. -/
theorem hinit :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (fun c : Dev nD => iprop(StableHlo.held (c : Thread nD τ) (Pipeline.ucRefs τ sig) (V0 m c) ∗ rest m 0 c)) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G (F := F) c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, -⟩
  ihave H' := hsplit $$ H
  icases H' with ⟨Hh, Hr⟩
  imod (launch_rest m ρ) $$ Hr with HE
  imodintro
  rw [bigSep_sep']
  isplitl [Hh]; · iexact Hh
  iexact HE

set_option backward.isDefEq.respectTransparency.types false in
/-- Every fair run of @main from memory `m` with every counter zero terminates, with each device's result as the
    valuation of the last segment names it, each argument as launched, and every counter at zero. -/
theorem run_main :
    θ_run defs (onTc (τ := τ) (main (F := F))) ⟨m, fun _ => 0, ρ⟩ (fun r => (∀ c : Dev nD, endsAt m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (rest m) () (pdats m) (reg0 m))
    (fun c Q => by
      rewrite [main_chain c, Pipeline.Seg.run_eq_chain,
        show (segs m (outs m) 𝒱₀ L lv (rest m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) u₀ hu₀
    (T₀ := fun c => iprop(StableHlo.held (c : Thread nD τ) (Pipeline.ucRefs τ sig) (V0 m c) ∗ rest m 0 c))
    (Tₙ := last m)
    (hch := fun c => ⟨.rfl, reg0_pre m c, reg0_post m c, last_intro m c⟩)
    (hinit := hinit m ρ) (QY := fun c s => endsAt m c s ∧ s.sem (kcell c none) = 0)
    (hfin := last_elim m) (hQ := fun s h hs => ⟨fun c => (h c).1, all_zero s (fun c => (h c).2) hs⟩)

end Cert.KernelIdeal.Run
-- ==== Proof.Frames.lean ====
/-
  The claims that need no values: the three frames and what the one named constant stands for.
-/
module

public import proofs.«01_k».proof.Defs
public import proofs.«01_k».proof.Proof.Gen.ReferenceIdeal
public import proofs.«01_k».proof.Proof.Gen.ReferenceIdeal.Run
public import proofs.«01_k».proof.Proof.Ideal.Run
public import proofs.«01_k».proof.Proof.Plain.Run

@[expose] public section

noncomputable section

namespace Cert.Frames

open Idealize.ShloMosaic Idealize.SL.Sem

/-- The kernel over bits: every fair run terminates, the arguments end as launched and every counter at zero. -/
theorem frame_p : Cert.quiescent_Kernel := fun m ρ _ =>
  (θ_run Cert.Kernel.defs _ _).mono (fun _ h => ⟨fun c => (h.1 c).2, h.2⟩) (Cert.Kernel.Run.run_main (F := Bits) m ρ)

/-- The same of the kernel over the extended reals. -/
theorem frame_pi : Cert.quiescent_KernelIdeal := fun m ρ _ =>
  (θ_run Cert.KernelIdeal.defs _ _).mono (fun _ h => ⟨fun c => (h.1 c).2, h.2⟩) (Cert.KernelIdeal.Run.run_main (F := Ideal) m ρ)

/-- The same of the reference, which declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The folded scale of the scores is the number the certificate's table names. -/
theorem preserves : Cert.preserves_Kernel_KernelIdeal :=
  IdealRules.named_const.statement Cert.KernelIdeal.κ "scale_log2e" .bf16 0x3E03#16 (((Real.log 2)⁻¹ * (11863283 / 134217728) : ℝ) : EReal) rfl

end Cert.Frames

end
-- ==== Proof.Value.Consts.lean ====
/-
  The numbers that the programs spell, as extended reals: the scale, the infinities, and the kernel's named constant.
-/
module

public import proofs.«01_k».proof.Defs

@[expose] public section

noncomputable section

namespace Cert.Consts

open Idealize.ShloMosaic

/-- The reference's scale. -/
def scale : ℝ := 11863283 / 134217728

/-- The reference's scale word is the scale. -/
theorem ofBits_scale : (Ideal.ofBits .f32 0x3DB504F3#32 : EReal) = ((scale : ℝ) : EReal) := by
  unfold scale
  simp [Ideal.ofBits, Ideal.ieee, -EReal.coe_mul]; norm_num

/-- The word of minus infinity is the least element. -/
theorem ofBits_bot : (Ideal.ofBits .f32 0xFF800000#32 : EReal) = ⊥ := by
  simp [Ideal.ofBits, Ideal.ieee]

/-- The word of infinity is the greatest element. -/
theorem ofBits_top : (Ideal.ofBits .f32 0x7F800000#32 : EReal) = ⊤ := by
  simp [Ideal.ofBits, Ideal.ieee]

/-- The word of one is one. -/
theorem ofBits_one_bf16 : (Ideal.ofBits .bf16 0x3F80#16 : EReal) = 1 := by
  simp [Ideal.ofBits, Ideal.ieee, -EReal.coe_mul]; norm_num

/-- The kernel's named constant. -/
theorem scale_log2e : Named.named (F := Ideal) Cert.KernelIdeal.κ "scale_log2e" (φ := .bf16) 0x3E03#16 = (((Real.log 2)⁻¹ * scale : ℝ) : EReal) :=
  IdealRules.named_const.ideal_named_scalar _ _ _ _ rfl

end Cert.Consts
-- ==== Proof.Value.Block.lean ====
/-
  What the kernel computes for one block of rows: attention of one group of four heads, twice, and the output projection.
-/
module

public import proofs.«01_k».proof.Proof.Ideal.Moves
public import proofs.«01_k».proof.Proof.Value.Consts
public import Idealize.ShloMosaic.Lib.Pointwise

@[expose] public section

noncomputable section

namespace Cert.KernelIdeal.Value

open Cert.KernelIdeal Cert.KernelIdeal.Gen Cert.KernelIdeal.Run
open Idealize.ShloMosaic

section
variable {F : FTy → Type} [FloatOps F] [Named F]

/-- One group's heads side by side as rows: the exponentials of the scores against the values, over their row sums, which
    the ones beside the values make. -/
def soft (q k : FVec F S512x128 .bf16) (ve : FVec F S512x256 .bf16) : FVec F S512x128 .bf16 :=
  have v85 : FVec F S512x256 .f32 := matmul dot_S512x512_S512x256_S512x256_1_0_0_1_n_n none
    (exp2 (truncf .bf16 (matmul dot_S512x128_S512x128_S512x512_1_1_0_0_n_n none q k (constant S512x512 .f32 0x00000000#32)) bitsLt_bf16_f32)) ve
    (constant S512x256 .f32 0x00000000#32)
  have v86 : FVec F S512x1 .f32 := extractStridedSlice S512x1 ![0, 128] v85 slices_S512x256_o0_128_S512x1
  have v88 : FVec F S512x1 .f32 := divf (broadcast S512x1 (Scalar.ofBits .f32 0x3F800000#32)) v86
  have v89 : FVec F S512x128 .f32 := extractStridedSlice S512x128 ![0, 0] v85 slices_S512x256_o0_0_S512x128
  truncf .bf16 (mulf v89 (broadcastTo S512x128 v88 broadcasts_S512x1_S512x128)) bitsLt_bf16_f32

/-- The same of 128 rows of the queries, heads side by side as columns. -/
def half (qs : FVec F S128x512 .bf16) (ks : FVec F S512x128 .bf16) (ve : FVec F S512x256 .bf16) : FVec F S128x512 .bf16 :=
  shapeCast S128x512 (soft (shapeCast S512x128 qs shapeCasts_S128x512_S512x128) ks ve) shapeCasts_S512x128_S128x512

/-- Two groups side by side through the output projection. -/
def rows (h0 h1 : FVec F S128x512 .bf16) (o : FVec F S1024x1024 .bf16) : Blk F :=
  shapeCast S1x128x1024 (truncf .bf16 (matmul dot_S128x1024_S1024x1024_S128x1024_1_0_0_1_n_n none
    (concatenate S128x1024 1 [⟨S128x512, h0⟩, ⟨S128x512, h1⟩] concatenates_S128x512_S128x512_S128x1024_d1) o
    (constant S128x1024 .f32 0x00000000#32)) bitsLt_bf16_f32) shapeCasts_S128x1024_S1x128x1024

variable (x : VX F) (w : VW F) (o : VO F)

/-- The keys of a group. -/
def keys0 : FVec F S512x128 .bf16 := extractStridedSlice S512x128 ![0, 0] (k0_pay4 w x) slices_S512x256_o0_0_S512x128
/-- The keys of the second group. -/
def keys1 : FVec F S512x128 .bf16 := extractStridedSlice S512x128 ![0, 128] (k0_pay4 w x) slices_S512x256_o0_128_S512x128

/-- The first block of rows of the partial product is two groups through the output projection. -/
theorem yblk_0 : yblk x w o 0 = rows (half (extractStridedSlice S128x512 ![0, 0] (k0_pay3 w x) slices_S512x1024_o0_0_S128x512) (keys0 x w) (k0_pay8 w x))
    (half (extractStridedSlice S128x512 ![0, 512] (k0_pay3 w x) slices_S512x1024_o0_512_S128x512) (keys1 x w) (k0_pay9 w x)) (k0_pay6 o) := rfl
/-- The second block of rows. -/
theorem yblk_1 : yblk x w o 1 = rows (half (extractStridedSlice S128x512 ![128, 0] (k0_pay3 w x) slices_S512x1024_o128_0_S128x512) (keys0 x w) (k0_pay8 w x))
    (half (extractStridedSlice S128x512 ![128, 512] (k0_pay3 w x) slices_S512x1024_o128_512_S128x512) (keys1 x w) (k0_pay9 w x)) (k0_pay6 o) := rfl
/-- The third block of rows. -/
theorem yblk_2 : yblk x w o 2 = rows (half (extractStridedSlice S128x512 ![256, 0] (k0_pay3 w x) slices_S512x1024_o256_0_S128x512) (keys0 x w) (k0_pay8 w x))
    (half (extractStridedSlice S128x512 ![256, 512] (k0_pay3 w x) slices_S512x1024_o256_512_S128x512) (keys1 x w) (k0_pay9 w x)) (k0_pay6 o) := rfl
/-- The fourth block of rows. -/
theorem yblk_3 : yblk x w o 3 = rows (half (extractStridedSlice S128x512 ![384, 0] (k0_pay3 w x) slices_S512x1024_o384_0_S128x512) (keys0 x w) (k0_pay8 w x))
    (half (extractStridedSlice S128x512 ![384, 512] (k0_pay3 w x) slices_S512x1024_o384_512_S128x512) (keys1 x w) (k0_pay9 w x)) (k0_pay6 o) := rfl
end

/-! ## At an index, over the extended reals -/

/-- The sum over the keys of the exponentials of a row of scores against a column of values. -/
def mass (q : Fin 128 → EReal) (k : Fin 512 → Fin 128 → EReal) (v : Fin 512 → EReal) : EReal :=
  ∑ t : Fin 512, Ideal.exp2 (∑ e : Fin 128, q e * k t e) * v t

/-- One entry of a group: the masses of the values over the masses of the ones, of the head that the column lies in. -/
theorem half_at (qs : FVec Ideal S128x512 .bf16) (k : FVec Ideal S512x128 .bf16) (ve : FVec Ideal S512x256 .bf16) (i : Fin 128) (j : Fin 512) :
    half qs k ve (ix2 i j)
      = mass (fun e => qs (ix2 i ⟨j.1 / 128 * 128 + e.1, by omega⟩)) (fun t e => k (ix2 t e)) (fun t => ve (ix2 t ⟨j.1 % 128, by omega⟩))
        * Ideal.div 1 (mass (fun e => qs (ix2 i ⟨j.1 / 128 * 128 + e.1, by omega⟩)) (fun t e => k (ix2 t e)) (fun t => ve (ix2 t ⟨128, by omega⟩))) := by
  have hj : (i.1 * 4 + j.1 / 128) % 4 = j.1 / 128 := by omega
  unfold mass
  pointwise [half, soft]
  simp only [hj]
  rfl

/-- A row through the output projection: the sums over the columns of both groups. -/
theorem rows_at (h0 h1 : FVec Ideal S128x512 .bf16) (o : FVec Ideal S1024x1024 .bf16) (i : Fin 128) (n : Fin 1024) :
    rows h0 h1 o (ix3 0 i n) = ∑ x : Fin 512, h0 (ix2 i x) * o (ix2 ⟨x.1, by omega⟩ n) + ∑ x : Fin 512, h1 (ix2 i x) * o (ix2 ⟨512 + x.1, by omega⟩ n) := by
  pointwise [rows]

section
variable (x : VX Ideal) (w : VW Ideal) (o : VO Ideal)

/-- A row of activations through a column of the scaled query weights. -/
def qd (i : Fin 512) (n : Fin 1536) : EReal := ∑ u : Fin 1024, x (ix2 i u) * (w (ix2 u n) * Named.named (F := Ideal) κ "scale_log2e" (φ := .bf16) 0x3E03#16)

/-- A row of activations through a column of the weights. -/
def pj (i : Fin 512) (n : Fin 1536) : EReal := ∑ u : Fin 1024, x (ix2 i u) * w (ix2 u n)

/-- The fused projection at an index: a scaled query, or a key or value. -/
theorem pay2_at (i : Fin 512) (n : Fin 1536) : k0_pay2 w x (ix2 i n) = if n.1 < 1024 then qd x w i n else pj x w i n := by
  unfold qd pj
  pointwise [k0_pay2]
  by_cases h : n.1 < 1024
  · simp only [h, dite_true, if_true]
  · have e : ∀ (p : 1024 + (n.1 - 1024) < 1536), (⟨1024 + (n.1 - 1024), p⟩ : Fin 1536) = n := fun p => Fin.ext (by simp only []; omega)
    simp only [h, dite_false, if_false, e]

/-- The query part of the fused projection. -/
theorem pay3_at (i : Fin 512) (n : Fin 1024) : k0_pay3 w x (ix2 i n) = qd x w i ⟨n.1, by omega⟩ := by
  unfold k0_pay3
  have h := pay2_at x w i ⟨n.1, by omega⟩
  rw [if_pos (show n.1 < 1024 from n.2)] at h
  rw [← h]
  generalize k0_pay2 w x = z
  pointwise

/-- The keys of the first group, at an index. -/
theorem keys0_at (i : Fin 512) (n : Fin 128) : keys0 x w (ix2 i n) = pj x w i ⟨1024 + n.1, by omega⟩ := by
  unfold keys0 k0_pay4
  have h := pay2_at x w i ⟨1024 + n.1, by omega⟩
  rw [if_neg (show ¬ 1024 + n.1 < 1024 by omega)] at h
  rw [← h]
  generalize k0_pay2 w x = z
  pointwise

/-- The keys of the second group, at an index. -/
theorem keys1_at (i : Fin 512) (n : Fin 128) : keys1 x w (ix2 i n) = pj x w i ⟨1024 + (128 + n.1), by omega⟩ := by
  unfold keys1 k0_pay4
  have h := pay2_at x w i ⟨1024 + (128 + n.1), by omega⟩
  rw [if_neg (show ¬ 1024 + (128 + n.1) < 1024 by omega)] at h
  rw [← h]
  generalize k0_pay2 w x = z
  pointwise

/-- The value part of the fused projection. -/
theorem pay5_at (i : Fin 512) (n : Fin 256) : k0_pay5 w x (ix2 i n) = pj x w i ⟨1280 + n.1, by omega⟩ := by
  have h := pay2_at x w i ⟨1280 + n.1, by omega⟩
  rw [if_neg (show ¬ 1280 + n.1 < 1024 by omega)] at h
  rw [← h]
  unfold k0_pay5
  generalize k0_pay2 w x = z
  pointwise

/-- The array of ones, at an index. -/
theorem pay7_at (i : Fin 512) (n : Fin 128) : k0_pay7 (F := Ideal) (ix2 i n) = (1 : EReal) := by
  rw [← Cert.Consts.ofBits_one_bf16]
  rfl

/-- The values of the first group. -/
theorem pay8_at (i : Fin 512) (n : Fin 128) : k0_pay8 w x (ix2 i ⟨n.1, by omega⟩) = pj x w i ⟨1280 + n.1, by omega⟩ := by
  rw [← pay5_at x w i ⟨n.1, by omega⟩]
  unfold k0_pay8
  generalize k0_pay5 w x = z
  pointwise

/-- The ones beside the values of the first group. -/
theorem pay8_one (i : Fin 512) : k0_pay8 w x (ix2 i ⟨128, by omega⟩) = (1 : EReal) := by
  rw [← pay7_at i 0]
  unfold k0_pay8
  generalize k0_pay5 w x = z
  pointwise

/-- The values of the second group. -/
theorem pay9_at (i : Fin 512) (n : Fin 128) : k0_pay9 w x (ix2 i ⟨n.1, by omega⟩) = pj x w i ⟨1280 + (128 + n.1), by omega⟩ := by
  rw [← pay5_at x w i ⟨128 + n.1, by omega⟩]
  unfold k0_pay9
  generalize k0_pay5 w x = z
  pointwise

/-- The ones beside the values of the second group. -/
theorem pay9_one (i : Fin 512) : k0_pay9 w x (ix2 i ⟨128, by omega⟩) = (1 : EReal) := by
  rw [← pay7_at i 0]
  unfold k0_pay9
  generalize k0_pay5 w x = z
  pointwise

/-- One entry of the attention of a device's eight heads, side by side. -/
def att (i : Fin 512) (j : Fin 1024) : EReal :=
  mass (fun e => qd x w i ⟨j.1 / 128 * 128 + e.1, by omega⟩) (fun t e => pj x w t ⟨1024 + (j.1 / 512 * 128 + e.1), by omega⟩)
      (fun t => pj x w t ⟨1280 + (j.1 / 512 * 128 + j.1 % 128), by omega⟩)
    * Ideal.div 1 (mass (fun e => qd x w i ⟨j.1 / 128 * 128 + e.1, by omega⟩) (fun t e => pj x w t ⟨1024 + (j.1 / 512 * 128 + e.1), by omega⟩) (fun _ => 1))

/-- The first group's part. -/
theorem half0_at (q : FVec Ideal S128x512 .bf16) (r : Fin 512) (i : Fin 128)
    (hq : ∀ n : Fin 512, q (ix2 i n) = qd x w r ⟨n.1, by omega⟩) (j : Fin 512) :
    half q (keys0 x w) (k0_pay8 w x) (ix2 i j) = att x w r ⟨j.1, by omega⟩ := by
  rw [half_at]
  have e0 : j.1 / 512 = 0 := by omega
  unfold att
  simp only [hq, keys0_at, pay8_one, pay8_at x w _ ⟨j.1 % 128, Nat.mod_lt _ (by omega)⟩, e0, Nat.zero_mul, Nat.zero_add]

/-- The second group's part. -/
theorem half1_at (q : FVec Ideal S128x512 .bf16) (r : Fin 512) (i : Fin 128)
    (hq : ∀ n : Fin 512, q (ix2 i n) = qd x w r ⟨512 + n.1, by omega⟩) (j : Fin 512) :
    half q (keys1 x w) (k0_pay9 w x) (ix2 i j) = att x w r ⟨512 + j.1, by omega⟩ := by
  rw [half_at]
  have e0 : (512 + j.1) / 512 = 1 := by omega
  have e1 : (512 + j.1) % 128 = j.1 % 128 := by omega
  have e2 : (512 + j.1) / 128 * 128 = 512 + j.1 / 128 * 128 := by omega
  unfold att
  simp only [hq, keys1_at, pay9_one, pay9_at x w _ ⟨j.1 % 128, Nat.mod_lt _ (by omega)⟩, e0, e1, e2, Nat.one_mul, Nat.add_assoc]

/-- The output projection as loaded. -/
theorem pay6_at (i n : Fin 1024) : k0_pay6 o (ix2 i n) = o (ix2 i n) := by
  pointwise [k0_pay6]

/-- Two groups of one row together. -/
theorem pair_at (qa qb : FVec Ideal S128x512 .bf16) (r : Fin 512) (i : Fin 128) (n : Fin 1024)
    (ha : ∀ n : Fin 512, qa (ix2 i n) = qd x w r ⟨n.1, by omega⟩) (hb : ∀ n : Fin 512, qb (ix2 i n) = qd x w r ⟨512 + n.1, by omega⟩) :
    rows (half qa (keys0 x w) (k0_pay8 w x)) (half qb (keys1 x w) (k0_pay9 w x)) (k0_pay6 o) (ix3 0 i n)
      = ∑ j : Fin 1024, att x w r j * o (ix2 j n) := by
  rw [rows_at]
  simp only [pay6_at, half0_at x w qa r i ha, half1_at x w qb r i hb]
  exact (Fin.sum_univ_add (a := 512) (b := 512) (fun j : Fin 1024 => att x w r j * o (ix2 j n))).symm

/-- A block of a device's partial product, at an index. -/
theorem yblk_at (b : Fin 4) (i : Fin 128) (n : Fin 1024) :
    yblk x w o b (ix3 0 i n) = ∑ j : Fin 1024, att x w ⟨b.1 * 128 + i.1, by omega⟩ j * o (ix2 j n) := by
  fin_cases b
  · refine (congrFun (yblk_0 x w o) _).trans (pair_at x w o _ _ _ i n (fun m => ?_) (fun m => ?_))
    · refine Eq.trans ?_ (pay3_at x w ⟨0 * 128 + i.1, by omega⟩ ⟨m.1, by omega⟩)
      generalize k0_pay3 w x = z
      pointwise
    · refine Eq.trans ?_ (pay3_at x w ⟨0 * 128 + i.1, by omega⟩ ⟨512 + m.1, by omega⟩)
      generalize k0_pay3 w x = z
      pointwise
  · refine (congrFun (yblk_1 x w o) _).trans (pair_at x w o _ _ _ i n (fun m => ?_) (fun m => ?_))
    · refine Eq.trans ?_ (pay3_at x w ⟨1 * 128 + i.1, by omega⟩ ⟨m.1, by omega⟩)
      generalize k0_pay3 w x = z
      pointwise
    · refine Eq.trans ?_ (pay3_at x w ⟨1 * 128 + i.1, by omega⟩ ⟨512 + m.1, by omega⟩)
      generalize k0_pay3 w x = z
      pointwise
  · refine (congrFun (yblk_2 x w o) _).trans (pair_at x w o _ _ _ i n (fun m => ?_) (fun m => ?_))
    · refine Eq.trans ?_ (pay3_at x w ⟨2 * 128 + i.1, by omega⟩ ⟨m.1, by omega⟩)
      generalize k0_pay3 w x = z
      pointwise
    · refine Eq.trans ?_ (pay3_at x w ⟨2 * 128 + i.1, by omega⟩ ⟨512 + m.1, by omega⟩)
      generalize k0_pay3 w x = z
      pointwise
  · refine (congrFun (yblk_3 x w o) _).trans (pair_at x w o _ _ _ i n (fun m => ?_) (fun m => ?_))
    · refine Eq.trans ?_ (pay3_at x w ⟨3 * 128 + i.1, by omega⟩ ⟨m.1, by omega⟩)
      generalize k0_pay3 w x = z
      pointwise
    · refine Eq.trans ?_ (pay3_at x w ⟨3 * 128 + i.1, by omega⟩ ⟨512 + m.1, by omega⟩)
      generalize k0_pay3 w x = z
      pointwise
end

end Cert.KernelIdeal.Value
-- ==== Proof.Value.Array.lean ====
/-
  What the kernel's result holds, at an index: the devices' partial products of one row and column, summed over the devices.
-/
module

public import proofs.«01_k».proof.Proof.Value.Block
public import proofs.«01_k».proof.Proof.Ideal.Run
public import Idealize.ShloMosaic.Lib.StableHlo.ReadAt
public import Idealize.ShloMosaic.Lib.Pipeline.ValueKit
public import Idealize.ShloMosaic.Lib.Pointwise
public import Idealize.ShloMosaic.Lib.DynamicIndex

@[expose] public section

noncomputable section

namespace Cert.KernelIdeal.Value

open Cert.KernelIdeal Cert.KernelIdeal.Gen Cert.KernelIdeal.Run
open Idealize.ShloMosaic Idealize.ShloMosaic.TcCoe

variable (m : (ℓ : Loc nD τ sig) → Buf (Elt Ideal) ℓ) (c : Dev nD)

/-- The windows that the kernel reads are the whole arrays. -/
theorem Xm_eq : Xm m c = V1 m c (Proc.devRef .tc main_v15) := by
  funext j
  unfold Xm
  blk_simp
  refine congrArg (V1 m c (Proc.devRef .tc main_v15)) ?_
  funext a
  refine Fin.ext ?_
  fin_cases a
  · show 0 * 512 + 1 * (j 0).val = (j 0).val
    omega
  · show 0 * 1024 + 1 * (j 1).val = (j 1).val
    omega

/-- The window of the weights holds the whole array. -/
theorem Wm_eq : Wm m c = V1 m c (Proc.devRef .tc main_v14) := by
  funext j
  unfold Wm
  blk_simp
  refine congrArg (V1 m c (Proc.devRef .tc main_v14)) ?_
  funext a
  refine Fin.ext ?_
  fin_cases a
  · show 0 * 1024 + 1 * (j 0).val = (j 0).val
    omega
  · show 0 * 1536 + 1 * (j 1).val = (j 1).val
    omega

/-- The window of the output projection holds the whole array. -/
theorem Om_eq : Om m c = V1 m c (Proc.devRef .tc main_arg4) := by
  funext j
  unfold Om
  blk_simp
  refine congrArg (V1 m c (Proc.devRef .tc main_arg4)) ?_
  funext a
  refine Fin.ext ?_
  fin_cases a
  · show 0 * 1024 + 1 * (j 0).val = (j 0).val
    omega
  · show 0 * 1024 + 1 * (j 1).val = (j 1).val
    omega

/-- The result array after the call is what the kernel leaves in its window. -/
theorem finalA_eq : finalA m c = outW m c := by
  unfold finalA
  refine (dat0 m c).arrAt_eq_of_after_last 3 t0_0 (by decide +kernel) _ fun j => ?_
  rfl

/-- A device's first column of its keys and values. -/
theorem off_word (c : Dev nD) : BitVec.toInt (select (cmpi .slt (muli (id (Host.remui (Host.divui (constantI S_ 32 (Dev.word c)) (constantI S_ 32 1#32)) (constantI S_ 32 4#32))) (constantI S_ 32 256#32)) (constantI S_ 32 0#32))
    (addi (muli (id (Host.remui (Host.divui (constantI S_ 32 (Dev.word c)) (constantI S_ 32 1#32)) (constantI S_ 32 4#32))) (constantI S_ 32 256#32)) (constantI S_ 32 1024#32))
    (muli (id (Host.remui (Host.divui (constantI S_ 32 (Dev.word c)) (constantI S_ 32 1#32)) (constantI S_ 32 4#32))) (constantI S_ 32 256#32)) (Shape.Idx.first h_S_)) = ((256 * c.val : ℕ) : Int) := by
  revert c
  decide +kernel

/-- A device's 256 columns lie inside the array. -/
theorem off_fits (c : Dev nD) : S1024x1024.Slices ![0, 256 * c.val] S1024x256 := by
  revert c
  decide

/-- A device's columns are columns of the array. -/
theorem col_lt (c : Dev nD) (n : Fin 256) : 256 * c.val + n.val < 1024 := by
  have h : c.val < 4 := c.isLt
  omega

/-- A device's slice of 256 columns. -/
theorem slice_at (z : FVec Ideal S1024x1024 .bf16) (start : Fin 2 → Int) (h0 : start 0 = 0) (h1 : start 1 = ((256 * c.val : ℕ) : Int))
    (h : S1024x1024.Slices (fun _ => 0) S1024x256) (u : Fin 1024) (n : Fin 256) :
    Host.dynamicSlice S1024x256 z start h (ix2 u n) = z (ix2 u ⟨256 * c.val + n.1, col_lt c n⟩) := by
  refine (congrFun (Host.dynamicSlice_eq_extractStridedSlice _ _ _ ![0, 256 * c.val] _ (off_fits c) fun a => ?_) _).trans ?_
  · fin_cases a
    · exact h0
    · exact h1
  · pointwise

/-- The first 1024 columns of the weights are the device's block of the query projection. -/
theorem wq_at (u : Fin 1024) (n : Fin 1024) : Wm m c (ix2 u ⟨n.1, by omega⟩) = (m ((c : Thread nD τ).loc main_arg1) : FVec Ideal S1024x1024 .bf16) (ix2 u n) := by
  rw [Wm_eq]
  unfold V1
  after_reads_at

/-- The next 256 columns are the device's columns of the key projection. -/
theorem wk_at (u : Fin 1024) (n : Fin 256) : Wm m c (ix2 u ⟨1024 + n.1, by omega⟩) = (m ((c : Thread nD τ).loc main_arg2) : FVec Ideal S1024x1024 .bf16) (ix2 u ⟨256 * c.val + n.1, col_lt c n⟩) := by
  rw [Wm_eq]
  unfold V1
  after_reads_at
  rw [StableHlo.unaryIndexed_result']
  refine (slice_at c _ _ ?_ ?_ _ u n).trans ?_
  · show BitVec.toInt ((StableHlo.upto (hostOps0 c) (V0 m c) 14 (Proc.tc.devRef main_c_4)) (Shape.Idx.first h_S_)) = 0
    after_reads_simp
    rfl
  · show BitVec.toInt ((StableHlo.upto (hostOps0 c) (V0 m c) 14 (Proc.tc.devRef main_v8)) (Shape.Idx.first h_S_)) = ((256 * c.val : ℕ) : Int)
    after_reads_simp
    exact off_word c
  · after_reads_simp

/-- The last 256 columns are the device's columns of the value projection. -/
theorem wv_at (u : Fin 1024) (n : Fin 256) : Wm m c (ix2 u ⟨1280 + n.1, by omega⟩) = (m ((c : Thread nD τ).loc main_arg3) : FVec Ideal S1024x1024 .bf16) (ix2 u ⟨256 * c.val + n.1, col_lt c n⟩) := by
  rw [Wm_eq]
  unfold V1
  after_reads_at
  have e : ∀ p, (⟨1280 + n.1 - 1024 - 256, p⟩ : Fin 256) = n := fun p => Fin.ext (by simp only []; omega)
  rw [dif_neg (show ¬ 1280 + n.1 < 1024 by omega), dif_neg (show ¬ 1280 + n.1 - 1024 < 256 by omega), e]
  rw [StableHlo.unaryIndexed_result']
  refine (slice_at c _ _ ?_ ?_ _ u n).trans ?_
  · show BitVec.toInt ((StableHlo.upto (hostOps0 c) (V0 m c) 21 (Proc.tc.devRef main_c_7)) (Shape.Idx.first h_S_)) = 0
    after_reads_simp
    rfl
  · show BitVec.toInt ((StableHlo.upto (hostOps0 c) (V0 m c) 21 (Proc.tc.devRef main_v12)) (Shape.Idx.first h_S_)) = ((256 * c.val : ℕ) : Int)
    after_reads_simp
    exact off_word c
  · after_reads_simp

/-- The input, without its leading axis. -/
theorem x_at (i : Fin 512) (u : Fin 1024) : Xm m c (ix2 i u) = (m ((c : Thread nD τ).loc main_arg0) : FVec Ideal S1x512x1024 .bf16) (ix3 0 i u) := by
  rw [Xm_eq]
  unfold V1
  after_reads_at

/-- The output projection is the device's argument. -/
theorem o_eq : Om m c = m ((c : Thread nD τ).loc main_arg4) := (Om_eq m c).trans (V1_of m c main_arg4 (by decide))

/-- The program's result is the kernel's, with a leading axis. -/
theorem v17_at (i : Fin 512) (n : Fin 1024) : (V3 m (outs m) c (Proc.devRef .tc main_v17) : FVec Ideal S1x512x1024 .bf16) (ix3 0 i n) = outW m c (ix2 i n) := by
  rw [← finalA_eq, ← V2_v16]
  unfold V3
  after_reads_at

/-- One device's partial product at a row and a column. -/
def part (c : Dev nD) (i : Fin 512) (n : Fin 1024) : EReal := ∑ j : Fin 1024, att (Xm m c) (Wm m c) i j * Om m c (ix2 j n)

/-- The first sum of two blocks, at an index. -/
theorem pay17_at (a b : FVec Ideal S1x128x1024 .bf16) (i : Fin 128) (n : Fin 1024) : k0_pay17 a b (ix3 0 i n) = (a (ix3 0 i n) + b (ix3 0 i n) : EReal) := by
  pointwise [k0_pay17]

/-- The second sum of two blocks, at an index. -/
theorem pay21_at (a b : FVec Ideal S1x128x1024 .bf16) (i : Fin 128) (n : Fin 1024) : k0_pay21 a b (ix2 i n) = (a (ix3 0 i n) + b (ix3 0 i n) : EReal) := by
  pointwise [k0_pay21]

/-- A device's result at a row and a column: its own partial product and its first partner's, and the same of its second partner. -/
theorem out_at (i : Fin 512) (n : Fin 1024) :
    outW m c (ix2 i n) = (part m c i n + part m (p1 c) i n) + (part m (p2 c) i n + part m (p1 (p2 c)) i n) := by
  have hb : ∀ d : Dev nD, Yv (Xm m) (Wm m) (Om m) d ⟨i.1 / 128, by omega⟩ (ix3 0 ⟨i.1 % 128, by omega⟩ n) = part m d i n := fun d => by
    unfold Yv
    rw [yblk_at]
    have e : ∀ p, (⟨i.1 / 128 * 128 + i.1 % 128, p⟩ : Fin 512) = i := fun p => Fin.ext (by simp only []; omega)
    simp only [e]
    rfl
  rw [← hb, ← hb, ← hb, ← hb, ← pay17_at, ← pay17_at, ← pay21_at]
  have er : rowIn (ix2 i n) = ix2 ⟨i.1 % 128, Nat.mod_lt _ (by decide)⟩ n := by funext a; fin_cases a <;> rfl
  show Ob (Xm m) (Wm m) (Om m) c (rowBlk (ix2 i n)) (rowIn (ix2 i n)) = _
  rw [er]
  rfl

end Cert.KernelIdeal.Value
-- ==== Proof.Value.RefRead.lean ====
/-
  What the reference computes, in stages: the scores, their maxima, the exponentials, their sums, the output.
-/
module

public import proofs.«01_k».proof.Proof.Gen.ReferenceIdeal.Run
public import Idealize.ShloMosaic.Lib.Pointwise

@[expose] public section

noncomputable section

namespace Cert.ReferenceIdeal.Stages

open Cert.ReferenceIdeal Cert.ReferenceIdeal.Gen
open Idealize.ShloMosaic

variable {F : FTy → Type} [FloatOps F]
variable (x : FVec F S1x512x1024 .bf16) (wq : FVec F S1024x4096 .bf16) (wk wv : FVec F S1024x1024 .bf16) (wo : FVec F S4096x1024 .bf16)

/-- A projection to eight heads, each then standing for four. -/
def heads (wk : FVec F S1024x1024 .bf16) : FVec F S1x512x32x128 .bf16 :=
  shapeCast S1x512x32x128 (broadcastInDim S1x512x8x4x128 ![0, 1, 2, 4] bcast_S1x512x8x128_S1x512x8x4x128_0_1_2_4
    (shapeCast S1x512x8x128 (truncf .bf16 (Host.dotGeneral dot_S1x512x1024_S1024x1024_S1x512x1024_2_0_01_1_n_n none x wk) bitsLt_bf16_f32)
      shapeCasts_S1x512x1024_S1x512x8x128)) shapeCasts_S1x512x8x4x128_S1x512x32x128

/-- The scaled scores. -/
def scores : FVec F S1x32x512x512 .f32 :=
  mulf (extf .f32 (truncf .bf16 (Host.dotGeneral dot_S1x512x32x128_S1x512x32x128_S1x32x512x512_3_3_1_1_02_02 none
      (shapeCast S1x512x32x128 (truncf .bf16 (Host.dotGeneral dot_S1x512x1024_S1024x4096_S1x512x4096_2_0_01_1_n_n none x wq) bitsLt_bf16_f32)
        shapeCasts_S1x512x4096_S1x512x32x128) (heads x wk)) bitsLt_bf16_f32) bitsLt_bf16_f32)
    (broadcastInDim S1x32x512x512 ![] bcast_S_S1x32x512x512 (constant S_ .f32 0x3DB504F3#32))

/-- The running maximum after the one pass. -/
def top (s : FVec F S1x32x512x512 .f32) : FVec F S1x32x512x1 .f32 :=
  maximumf (broadcastInDim S1x32x512x1 ![] bcast_S_S1x32x512x1 (constant S_ .f32 0xFF800000#32))
    (broadcastInDim S1x32x512x1 ![0, 1, 2] bcast_S1x32x512_S1x32x512x1_0_1_2
      (Host.reduce FloatOps.maximumf s (constant S_ .f32 0xFF800000#32) reducesTo_S1x32x512x512_S1x32x512_d3 h_S_))

/-- The factor by which the pass rescales what came before it. -/
def alpha (t : FVec F S1x32x512x1 .f32) : FVec F S1x32x512x1 .f32 :=
  Host.exp (subf (broadcastInDim S1x32x512x1 ![] bcast_S_S1x32x512x1 (constant S_ .f32 0xFF800000#32)) t)

/-- The exponentials. -/
def expo (s : FVec F S1x32x512x512 .f32) (t : FVec F S1x32x512x1 .f32) : FVec F S1x32x512x512 .f32 :=
  Host.exp (subf s (broadcastInDim S1x32x512x512 ![0, 1, 2, 3] bcast_S1x32x512x1_S1x32x512x512_0_1_2_3 t))

/-- The rows' sums. -/
def sums (a : FVec F S1x32x512x1 .f32) (p : FVec F S1x32x512x512 .f32) : FVec F S1x32x512x1 .f32 :=
  addf (mulf (broadcastInDim S1x32x512x1 ![] bcast_S_S1x32x512x1 (constant S_ .f32 0x00000000#32)) a)
    (broadcastInDim S1x32x512x1 ![0, 1, 2] bcast_S1x32x512_S1x32x512x1_0_1_2
      (Host.reduceAdd p (constant S_ .f32 0x00000000#32) reducesTo_S1x32x512x512_S1x32x512_d3 h_S_))

/-- The weighted values. -/
def outs (a : FVec F S1x32x512x1 .f32) (p : FVec F S1x32x512x512 .f32) (v : FVec F S1x512x32x128 .bf16) : FVec F S1x512x32x128 .f32 :=
  addf (mulf (broadcastInDim S1x512x32x128 ![] bcast_S_S1x512x32x128 (constant S_ .f32 0x00000000#32))
      (broadcastInDim S1x512x32x128 ![0, 1, 2, 3] bcast_S1x512x32x1_S1x512x32x128_0_1_2_3 (transpose S1x512x32x1 [0, 2, 1, 3] a transposes_S1x32x512x1_S1x512x32x1_0_2_1_3)))
    (transpose S1x512x32x128 [0, 3, 1, 2] (Host.dotGeneral dot_S1x512x32x128_S1x32x512x512_S1x32x128x512_1_3_3_2_02_01 none (extf .f32 v bitsLt_bf16_f32) p)
      transposes_S1x32x128x512_S1x512x32x128_0_3_1_2)

/-- The quotient through the output projection. -/
def final (n : FVec F S1x512x32x128 .f32) (l : FVec F S1x32x512x1 .f32) : FVec F S1x512x1024 .bf16 :=
  truncf .bf16 (Host.dotGeneral dot_S1x512x4096_S4096x1024_S1x512x1024_2_0_01_1_n_n none
    (shapeCast S1x512x4096 (Host.divf n (broadcastInDim S1x512x32x128 ![0, 1, 2, 3] bcast_S1x512x32x1_S1x512x32x128_0_1_2_3
      (transpose S1x512x32x1 [0, 2, 1, 3] l transposes_S1x32x512x1_S1x512x32x1_0_2_1_3))) shapeCasts_S1x512x32x128_S1x512x4096)
    (extf .f32 wo bitsLt_bf16_f32)) bitsLt_bf16_f32

/-- All of it. -/
def whole : FVec F S1x512x1024 .bf16 :=
  final wo (outs (alpha (top (scores x wq wk))) (expo (scores x wq wk) (top (scores x wq wk))) (heads x wv))
    (sums (alpha (top (scores x wq wk))) (expo (scores x wq wk) (top (scores x wq wk))))

/-- The reference's result is the stages one after the other. -/
theorem result_eq (m : (ℓ : Loc nD τ sig) → Buf (Elt F) ℓ) (c : Dev nD) :
    Cert.ReferenceIdeal.Value.res_main_v46 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index, over the extended reals -/

section
variable (x : FVec Ideal S1x512x1024 .bf16) (wq : FVec Ideal S1024x4096 .bf16) (wk wv : FVec Ideal S1024x1024 .bf16) (wo : FVec Ideal S4096x1024 .bf16)

/-- A key or value, at an index. -/
theorem heads_at (t : Fin 512) (h : Fin 32) (d : Fin 128) :
    heads x wk (ix4 0 t h d) = ∑ u : Fin 1024, x (ix3 0 t u) * wk (ix2 u ⟨h.1 / 4 * 128 + d.1, by omega⟩) := by
  pointwise [heads]

/-- A scaled score, at an index. -/
theorem scores_at (h : Fin 32) (i t : Fin 512) :
    scores x wq wk (ix4 0 h i t)
      = (∑ e : Fin 128, (∑ u : Fin 1024, x (ix3 0 i u) * wq (ix2 u ⟨h.1 * 128 + e.1, by omega⟩)) * heads x wk (ix4 0 t h e))
        * (Ideal.ofBits .f32 0x3DB504F3#32 : EReal) := by
  pointwise [scores]

/-- The rescaling factor, at an index. -/
theorem alpha_at (s : FVec Ideal S1x32x512x1 .f32) (h : Fin 32) (i : Fin 512) :
    alpha s (ix4 0 h i 0) = Ideal.exp (Ideal.ofBits .f32 0xFF800000#32 - s (ix4 0 h i 0)) := by
  pointwise [alpha]

/-- An exponential, at an index. -/
theorem expo_at (s : FVec Ideal S1x32x512x512 .f32) (t : FVec Ideal S1x32x512x1 .f32) (h : Fin 32) (i j : Fin 512) :
    expo s t (ix4 0 h i j) = Ideal.exp (s (ix4 0 h i j) - t (ix4 0 h i 0)) := by
  pointwise [expo]

/-- A row's sum, at an index. -/
theorem sums_at (a : FVec Ideal S1x32x512x1 .f32) (p : FVec Ideal S1x32x512x512 .f32) (h : Fin 32) (i : Fin 512) :
    sums a p (ix4 0 h i 0) = 0 * a (ix4 0 h i 0) + ∑ t : Fin 512, p (ix4 0 h i t) := by
  pointwise [sums]

/-- A weighted value, at an index. -/
theorem outs_at (a : FVec Ideal S1x32x512x1 .f32) (p : FVec Ideal S1x32x512x512 .f32) (v : FVec Ideal S1x512x32x128 .bf16)
    (h : Fin 32) (i : Fin 512) (d : Fin 128) :
    outs a p v (ix4 0 i h d) = 0 * a (ix4 0 h i 0) + ∑ t : Fin 512, v (ix4 0 t h d) * p (ix4 0 h i t) := by
  pointwise [outs]

/-- The result at an index: a sum over the columns of all heads. -/
theorem final_at (n : FVec Ideal S1x512x32x128 .f32) (l : FVec Ideal S1x32x512x1 .f32) (i : Fin 512) (j : Fin 1024) :
    final wo n l (ix3 0 i j)
      = ∑ J : Fin 4096, Ideal.div (n (ix4 0 i ⟨J.1 / 128, by omega⟩ ⟨J.1 % 128, by omega⟩)) (l (ix4 0 ⟨J.1 / 128, by omega⟩ i 0))
          * wo (ix2 J j) := by
  pointwise [final]

/-- A fold of maxima over real numbers, from the least element, is real unless it is over nothing. -/
theorem fold_max_real {ι : Type} [DecidableEq ι] (S : Finset ι) (f : ι → EReal) (hf : ∀ i, ∃ r : ℝ, f i = r) :
    (S = ∅ ∧ S.fold max ⊥ f = ⊥) ∨ ∃ r : ℝ, S.fold max ⊥ f = r := by
  induction S using Finset.induction_on with
  | empty => exact Or.inl ⟨rfl, rfl⟩
  | insert a S ha ih =>
    right
    obtain ⟨r, hr⟩ := hf a
    rw [Finset.fold_insert ha, hr]
    rcases ih with ⟨-, h⟩ | ⟨q, h⟩
    · exact ⟨r, by rw [h]; exact max_bot_right _⟩
    · exact ⟨max r q, by rw [h]; exact (EReal.coe_strictMono.monotone.map_max (a := r) (b := q)).symm⟩

/-- The same of all of a type that has an element, for an operation that is the maximum and a start that is the least element. -/
theorem fold_real {ι : Type} [Fintype ι] [Nonempty ι] (op : EReal → EReal → EReal) [Std.Commutative op] [Std.Associative op]
    (hop : op = max) (b : EReal) (hb : b = ⊥) (f : ι → EReal) (hf : ∀ i, ∃ r : ℝ, f i = r) :
    ∃ r : ℝ, (Finset.univ : Finset ι).fold op b f = r := by
  subst hop hb
  classical
  rcases fold_max_real Finset.univ f hf with ⟨h0, -⟩ | h
  · exact absurd h0 Finset.univ_nonempty.ne_empty
  · exact h

/-- The rows' maxima, before the pass's start is taken in. -/
def peaks (s : FVec Ideal S1x32x512x512 .f32) : FVec Ideal S1x32x512 .f32 :=
  Host.reduce FloatOps.maximumf s (constant S_ .f32 0xFF800000#32) reducesTo_S1x32x512x512_S1x32x512_d3 h_S_

/-- The maxima of rows of real numbers are real. -/
theorem peaks_real (s : FVec Ideal S1x32x512x512 .f32) (hs : ∀ i, ∃ r : ℝ, s i = (r : EReal))
    (hbot : (Ideal.ofBits .f32 0xFF800000#32 : EReal) = ⊥) (j : S1x32x512.Idx) : ∃ r : ℝ, peaks s j = (r : EReal) := by
  unfold peaks
  rw [Host.reduce_eq_fold_single _ _ _ _ (by decide)]
  exact fold_real (ι := Fin 512) _ Ideal.maximumf_eq_max _ hbot _ (fun t => hs _)

/-- The maximum of two arrays, at an index. -/
theorem max_at {s : Shape} (a b : FVec Ideal s .f32) (i : s.Idx) : maximumf a b i = max (a i : EReal) (b i) := rfl

/-- The running maximum is the greater of the start and the maximum of the row. -/
theorem top_eq (s : FVec Ideal S1x32x512x512 .f32) :
    top s = maximumf (broadcastInDim S1x32x512x1 ![] bcast_S_S1x32x512x1 (constant S_ .f32 0xFF800000#32))
      (broadcastInDim S1x32x512x1 ![0, 1, 2] bcast_S1x32x512_S1x32x512x1_0_1_2 (peaks s)) := rfl

/-- A trailing axis of one element, at an index. -/
theorem wide_at (R : FVec Ideal S1x32x512 .f32) (h : Fin 32) (i : Fin 512) :
    broadcastInDim S1x32x512x1 ![0, 1, 2] bcast_S1x32x512_S1x32x512x1_0_1_2 R (ix4 0 h i 0) = R (ix3 0 h i) := by
  pointwise

/-- The running maximum's start, at an index. -/
theorem start_at (h : Fin 32) (i : Fin 512) :
    broadcastInDim S1x32x512x1 ![] bcast_S_S1x32x512x1 (constant (F := Ideal) S_ .f32 0xFF800000#32) (ix4 0 h i 0) = Ideal.ofBits .f32 0xFF800000#32 := by
  pointwise

/-- The maximum of a row of real scores is real. -/
theorem top_real (s : FVec Ideal S1x32x512x512 .f32) (hs : ∀ h i t, ∃ r : ℝ, s (ix4 0 h i t) = (r : EReal))
    (hbot : (Ideal.ofBits .f32 0xFF800000#32 : EReal) = ⊥) (h : Fin 32) (i : Fin 512) :
    ∃ r : ℝ, top s (ix4 0 h i 0) = (r : EReal) := by
  have hs' : ∀ j, ∃ r : ℝ, s j = (r : EReal) := fun j => by
    have e : j = ix4 0 (j 1) (j 2) (j 3) := by
      funext a
      fin_cases a
      · exact Subsingleton.elim (α := Fin 1) _ _
      · rfl
      · rfl
      · rfl
    rw [e]
    exact hs _ _ _
  obtain ⟨r, hr⟩ := peaks_real s hs' hbot (ix3 0 h i)
  refine ⟨r, ?_⟩
  rw [top_eq, max_at, wide_at, start_at, hr, hbot]
  exact max_bot_left _
end

end Cert.ReferenceIdeal.Stages
-- ==== Proof.Value.Softmax.lean ====
/-
  One softmax two ways, over the extended reals: the exponentials base two of scores scaled by the scale over log 2, times the
  reciprocal of their sum; and the exponentials of the scaled scores less any real number, over their sum.
-/
module

public import proofs.«01_k».proof.Proof.Value.Consts

@[expose] public section

noncomputable section

namespace Cert.Softmax

open Idealize.ShloMosaic

/-- A sum of real numbers is the real sum. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A nonnegative real factor goes into a sum. -/
theorem sum_mul_coe {ι : Type} (S : Finset ι) (f : ι → EReal) (c : ℝ) (hc : 0 ≤ c) : ∑ i ∈ S, f i * (c : EReal) = (∑ i ∈ S, f i) * (c : EReal) := by
  classical
  induction S using Finset.induction_on with
  | empty => simp
  | insert a S ha ih =>
    rw [Finset.sum_insert ha, Finset.sum_insert ha, ih, EReal.right_distrib_of_nonneg_of_ne_top (by exact_mod_cast hc) (EReal.coe_ne_top c)]

/-- A sum of products of real numbers is real. -/
theorem real_sum {ι : Type} (S : Finset ι) (f : ι → EReal) (hf : ∀ i, ∃ r : ℝ, f i = r) : ∃ r : ℝ, ∑ i ∈ S, f i = r := by
  choose g hg using hf
  exact ⟨∑ i ∈ S, g i, by rw [← coe_sum]; exact Finset.sum_congr rfl fun i _ => hg i⟩

/-- A product of real numbers is real. -/
theorem real_mul (a b : EReal) (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

open Cert.Consts in
/-- The exponential base two of a score times the named constant is the exponential of the scaled score. -/
theorem exp2_scaled (s : ℝ) : Ideal.exp2 (((Real.log 2)⁻¹ * scale * s : ℝ) : EReal) = (Real.exp (s * scale) : EReal) := by
  rw [Ideal.exp2_coe]
  congr 1
  have h2 : Real.log 2 ≠ 0 := (Real.log_pos (by norm_num)).ne'
  refine (Real.rpow_def_of_pos (by norm_num) _).trans ?_
  congr 1
  field_simp

open Cert.Consts in
/-- The two softmaxes agree, whatever the values and whatever real number is taken off the scores. -/
theorem attend (s : Fin 512 → ℝ) (v : Fin 512 → EReal) (m : ℝ) (a : EReal) :
    (∑ t, Ideal.exp2 (((Real.log 2)⁻¹ * scale * s t : ℝ) : EReal) * v t) * Ideal.div 1 (∑ t, Ideal.exp2 (((Real.log 2)⁻¹ * scale * s t : ℝ) : EReal) * 1)
      = Ideal.div (0 * a + ∑ t, v t * Ideal.exp (((s t * scale : ℝ) : EReal) - (m : EReal)))
          (0 * a + ∑ t, Ideal.exp (((s t * scale : ℝ) : EReal) - (m : EReal))) := by
  have he : ∀ t, Ideal.exp (((s t * scale : ℝ) : EReal) - (m : EReal)) = (Real.exp (s t * scale) : EReal) * (Real.exp (-m) : EReal) := fun t => by
    rw [← EReal.coe_sub, Ideal.exp_coe, ← EReal.coe_mul, ← Real.exp_add, sub_eq_add_neg]
  have hc : 0 < Real.exp (-m) := Real.exp_pos _
  have hD : 0 < ∑ t : Fin 512, Real.exp (s t * scale) := Finset.sum_pos (fun t _ => Real.exp_pos _) Finset.univ_nonempty
  simp only [exp2_scaled, he, zero_mul, zero_add, mul_one, ← mul_assoc, sum_mul_coe _ _ _ hc.le, coe_sum]
  rw [← EReal.coe_mul, Ideal.div_coe hD.ne', Ideal.div_coe (mul_pos hD hc).ne', one_mul, mul_assoc, ← EReal.coe_mul]
  congr 1
  · exact Finset.sum_congr rfl fun t _ => mul_comm _ _
  · congr 1
    have hD' := hD.ne'
    have hc' := hc.ne'
    generalize (∑ t : Fin 512, Real.exp (s t * scale)) = D at hD' ⊢
    field_simp

end Cert.Softmax
-- ==== Proof.Value.Equation.lean ====
/-
  The equation: the kernel's sum over the devices is the reference's sum over the columns of the output projection.
-/
module

public import proofs.«01_k».proof.Proof.Value.Array
public import proofs.«01_k».proof.Proof.Value.RefRead
public import proofs.«01_k».proof.Proof.Value.Softmax

@[expose] public section

noncomputable section

namespace Cert.Equation

open Idealize.ShloMosaic
open Cert.Consts Cert.Softmax
open Cert.KernelIdeal.Run (VX VW VO p1 p2)
open Cert.KernelIdeal.Value (att mass qd pj)
open Cert.ReferenceIdeal.Stages

/-- The kernel's constant. -/
abbrev kap : ℝ := (Real.log 2)⁻¹ * scale

/-- The sum over the 1024 columns of one device. -/
def columns (f : Fin 4096 → EReal) (d : Fin 4) : EReal := ∑ j : Fin 1024, f ⟨1024 * d.1 + j.1, by omega⟩

section
variable (x : FVec Ideal Cert.ReferenceIdeal.S1x512x1024 .bf16) (wq : FVec Ideal Cert.ReferenceIdeal.S1024x4096 .bf16)
  (wk wv : FVec Ideal Cert.ReferenceIdeal.S1024x1024 .bf16) (wo : FVec Ideal Cert.ReferenceIdeal.S4096x1024 .bf16)

/-- The three operands of the scores as real matrices. -/
structure Reals where
  xr : Fin 512 → Fin 1024 → ℝ
  qr : Fin 1024 → Fin 4096 → ℝ
  kr : Fin 1024 → Fin 1024 → ℝ
  hx : ∀ i u, x (ix3 0 i u) = ((xr i u : ℝ) : EReal)
  hq : ∀ u n, wq (ix2 u n) = ((qr u n : ℝ) : EReal)
  hk : ∀ u n, wk (ix2 u n) = ((kr u n : ℝ) : EReal)

variable {x wq wk} (r : Reals x wq wk)

/-- A query, a key, and a score. -/
def Reals.query (i : Fin 512) (n : Fin 4096) : ℝ := ∑ u, r.xr i u * r.qr u n
/-- A key. -/
def Reals.key (t : Fin 512) (n : Fin 1024) : ℝ := ∑ u, r.xr t u * r.kr u n
/-- A score, before it is scaled. -/
def Reals.score (h : Fin 32) (i t : Fin 512) : ℝ :=
  ∑ e : Fin 128, r.query i ⟨h.1 * 128 + e.1, by omega⟩ * r.key t ⟨h.1 / 4 * 128 + e.1, by omega⟩

/-- The reference's keys are real: every four heads share one. -/
theorem Reals.key_at (t : Fin 512) (h : Fin 32) (d : Fin 128) : heads x wk (ix4 0 t h d) = ((r.key t ⟨h.1 / 4 * 128 + d.1, by omega⟩ : ℝ) : EReal) := by
  rw [heads_at]
  simp only [r.hx, r.hk, ← EReal.coe_mul, coe_sum]
  rfl

/-- The reference's scores are real. -/
theorem Reals.scores_at (h : Fin 32) (i t : Fin 512) : scores x wq wk (ix4 0 h i t) = ((r.score h i t * scale : ℝ) : EReal) := by
  rw [Cert.ReferenceIdeal.Stages.scores_at, ofBits_scale]
  simp only [r.hx, r.hq, r.key_at, ← EReal.coe_mul, coe_sum]
  rfl

/-- The reference's weighted values over the row sum, at a place. -/
theorem Reals.ref_at (h : Fin 32) (i : Fin 512) (d : Fin 128) :
    Ideal.div (outs (alpha (top (scores x wq wk))) (expo (scores x wq wk) (top (scores x wq wk))) (heads x wv) (ix4 0 i h d))
        (sums (alpha (top (scores x wq wk))) (expo (scores x wq wk) (top (scores x wq wk))) (ix4 0 h i 0))
      = (∑ t, Ideal.exp2 ((kap * r.score h i t : ℝ) : EReal) * heads x wv (ix4 0 t h d))
        * Ideal.div 1 (∑ t, Ideal.exp2 ((kap * r.score h i t : ℝ) : EReal) * 1) := by
  obtain ⟨M, hM⟩ := top_real (scores x wq wk) (fun h i t => ⟨_, r.scores_at h i t⟩) ofBits_bot h i
  rw [outs_at, sums_at]
  simp only [expo_at, hM, r.scores_at]
  exact (attend _ _ M _).symm

/-- What a device holds of the whole arrays. -/
structure Held (x : FVec Ideal Cert.ReferenceIdeal.S1x512x1024 .bf16) (wq : FVec Ideal Cert.ReferenceIdeal.S1024x4096 .bf16)
    (wk wv : FVec Ideal Cert.ReferenceIdeal.S1024x1024 .bf16) (wo : FVec Ideal Cert.ReferenceIdeal.S4096x1024 .bf16)
    (c : Fin 4) (X : VX Ideal) (W : VW Ideal) (O : VO Ideal) : Prop where
  hx : ∀ i u, X (ix2 i u) = x (ix3 0 i u)
  hq : ∀ (u n : Fin 1024), W (ix2 u ⟨n.1, by omega⟩) = wq (ix2 u ⟨1024 * c.1 + n.1, by omega⟩)
  hk : ∀ (u : Fin 1024) (n : Fin 256), W (ix2 u ⟨1024 + n.1, by omega⟩) = wk (ix2 u ⟨256 * c.1 + n.1, by omega⟩)
  hv : ∀ (u : Fin 1024) (n : Fin 256), W (ix2 u ⟨1280 + n.1, by omega⟩) = wv (ix2 u ⟨256 * c.1 + n.1, by omega⟩)
  ho : ∀ (j n : Fin 1024), O (ix2 j n) = wo (ix2 ⟨1024 * c.1 + j.1, by omega⟩ n)

variable {wv wo} {c : Fin 4} {X : VX Ideal} {W : VW Ideal} {O : VO Ideal} (H : Held x wq wk wv wo c X W O)

include r H in
/-- The kernel's query on a device is the query of the device's column times the constant. -/
theorem qd_real (i : Fin 512) (n : Fin 1024) : qd X W i ⟨n.1, by omega⟩ = ((kap * r.query i ⟨1024 * c.1 + n.1, by omega⟩ : ℝ) : EReal) := by
  unfold qd
  have hq : ∀ u : Fin 1024, W (ix2 u ⟨n.1, by omega⟩) = ((r.qr u ⟨1024 * c.1 + n.1, by omega⟩ : ℝ) : EReal) := fun u => (H.hq u n).trans (r.hq _ _)
  simp only [hq, H.hx, r.hx, scale_log2e, ← EReal.coe_mul, coe_sum]
  congr 1
  unfold Reals.query
  rw [Finset.mul_sum]
  exact Finset.sum_congr rfl fun u _ => by ring

include r H in
/-- The kernel's key on a device is the key of the device's column. -/
theorem pj_key (t : Fin 512) (n : Fin 256) : pj X W t ⟨1024 + n.1, by omega⟩ = ((r.key t ⟨256 * c.1 + n.1, by omega⟩ : ℝ) : EReal) := by
  unfold pj
  simp only [H.hx, H.hk, r.hx, r.hk, ← EReal.coe_mul, coe_sum]
  rfl

include H in
/-- The kernel's value on a device is the reference's value of the head that uses it. -/
theorem pj_value (t : Fin 512) (n : Fin 256) (h : Fin 32) (d : Fin 128) (e : h.1 / 4 * 128 + d.1 = 256 * c.1 + n.1) :
    pj X W t ⟨1280 + n.1, by omega⟩ = heads x wv (ix4 0 t h d) := by
  unfold pj
  rw [heads_at]
  simp only [H.hx, H.hv, e]

include r H in
/-- The kernel's attention at a place is the reference's. -/
theorem att_eq (i : Fin 512) (j : Fin 1024) (h : Fin 32) (d : Fin 128) (hh : h.1 = 8 * c.1 + j.1 / 128) (hd : d.1 = j.1 % 128) :
    att X W i j = (∑ t, Ideal.exp2 ((kap * r.score h i t : ℝ) : EReal) * heads x wv (ix4 0 t h d))
        * Ideal.div 1 (∑ t, Ideal.exp2 ((kap * r.score h i t : ℝ) : EReal) * 1) := by
  have hs : ∀ t : Fin 512, ∑ e : Fin 128, qd X W i ⟨j.1 / 128 * 128 + e.1, by omega⟩ * pj X W t ⟨1024 + (j.1 / 512 * 128 + e.1), by omega⟩
      = ((kap * r.score h i t : ℝ) : EReal) := fun t => by
    have hq : ∀ e : Fin 128, qd X W i ⟨j.1 / 128 * 128 + e.1, by omega⟩ = ((kap * r.query i ⟨h.1 * 128 + e.1, by omega⟩ : ℝ) : EReal) := fun e => by
      refine (qd_real r H i ⟨j.1 / 128 * 128 + e.1, by omega⟩).trans ?_
      have : 1024 * c.1 + (j.1 / 128 * 128 + e.1) = h.1 * 128 + e.1 := by omega
      simp only [this]
    have hk : ∀ e : Fin 128, pj X W t ⟨1024 + (j.1 / 512 * 128 + e.1), by omega⟩ = ((r.key t ⟨h.1 / 4 * 128 + e.1, by omega⟩ : ℝ) : EReal) := fun e => by
      refine (pj_key r H t ⟨j.1 / 512 * 128 + e.1, by omega⟩).trans ?_
      have : 256 * c.1 + (j.1 / 512 * 128 + e.1) = h.1 / 4 * 128 + e.1 := by omega
      simp only [this]
    simp only [hq, hk, ← EReal.coe_mul, coe_sum]
    congr 1
    unfold Reals.score
    rw [Finset.mul_sum]
    exact Finset.sum_congr rfl fun u _ => by ring
  have hv : ∀ t : Fin 512, pj X W t ⟨1280 + (j.1 / 512 * 128 + j.1 % 128), by omega⟩ = heads x wv (ix4 0 t h d) := fun t =>
    pj_value H t ⟨j.1 / 512 * 128 + j.1 % 128, by omega⟩ h d (by simp only []; omega)
  unfold att mass
  simp only [hs, hv]

include r H in
/-- A device's partial product is its columns' part of the reference's sum. -/
theorem part_eq (i : Fin 512) (n : Fin 1024) (f : Fin 4096 → EReal)
    (hf : ∀ J : Fin 4096, f J = Ideal.div
      (outs (alpha (top (scores x wq wk))) (expo (scores x wq wk) (top (scores x wq wk))) (heads x wv) (ix4 0 i ⟨J.1 / 128, by omega⟩ ⟨J.1 % 128, by omega⟩))
      (sums (alpha (top (scores x wq wk))) (expo (scores x wq wk) (top (scores x wq wk))) (ix4 0 ⟨J.1 / 128, by omega⟩ i 0)) * wo (ix2 J n)) :
    ∑ j : Fin 1024, att X W i j * O (ix2 j n) = columns f c := by
  refine Finset.sum_congr rfl fun j _ => ?_
  rw [hf, H.ho, r.ref_at, att_eq r H i j ⟨(1024 * c.1 + j.1) / 128, by omega⟩ ⟨(1024 * c.1 + j.1) % 128, by omega⟩ (by simp only []; omega) (by simp only []; omega)]
end

/-- A sum over 4096 columns, device by device. -/
theorem sum_devices (f : Fin 4096 → EReal) : ∑ J, f J = columns f 0 + columns f 1 + (columns f 2 + columns f 3) := by
  unfold columns
  refine (Fin.sum_univ_two_halves 2048 2048 rfl f).trans (congrArg₂ (· + ·) ?_ ?_)
  · refine (Fin.sum_univ_two_halves 1024 1024 rfl _).trans (congrArg₂ (· + ·) ?_ ?_)
    · exact Finset.sum_congr rfl fun j _ => congrArg f (Fin.ext (by simp only [] <;> omega))
    · exact Finset.sum_congr rfl fun j _ => congrArg f (Fin.ext (by simp only [] <;> omega))
  · refine (Fin.sum_univ_two_halves 1024 1024 rfl _).trans (congrArg₂ (· + ·) ?_ ?_)
    · exact Finset.sum_congr rfl fun j _ => congrArg f (Fin.ext (by simp only [] <;> omega))
    · exact Finset.sum_congr rfl fun j _ => congrArg f (Fin.ext (by simp only [] <;> omega))

/-- The two exchanges sum over all devices, whichever the device. -/
theorem exchanged (g : Fin 4 → EReal) (c : Fin 4) : (g c + g (p1 c)) + (g (p2 c) + g (p1 (p2 c))) = g 0 + g 1 + (g 2 + g 3) := by
  fin_cases c
  · show (g 0 + g 1) + (g 3 + g 2) = _; abel
  · show (g 1 + g 0) + (g 2 + g 3) = _; abel
  · show (g 2 + g 3) + (g 1 + g 0) = _; abel
  · show (g 3 + g 2) + (g 0 + g 1) = _; abel

end Cert.Equation
-- ==== Proof.Value.Finite.lean ====
/-
  What the precondition says of the arrays: every element of the first three is a real number.
-/
module

public import proofs.«01_k».proof.Proof.Value.Consts
public import Idealize.ShloMosaic.Lib.ReduceAll
public import Idealize.ShloMosaic.Lib.Pointwise

@[expose] public section

noncomputable section

open Idealize.ShloMosaic

/-- The stated facts of the precondition at the kernel's shapes. -/
instance Cert.Pre_finite_scores_KernelIdeal.facts : Cert.Pre_finite_scores_KernelIdeal.Facts where
  bitsLt_bf16_f32 := by decide
  bcast_S_S1x512x1024 := by decide
  reducesTo_S1x512x1024_S_d0_1_2 := by decide
  h_S_ := by decide
  bcast_S_S1024x1024 := by decide
  reducesTo_S1024x1024_S_d0_1 := by decide

/-- The stated facts of the precondition at the reference's shapes. -/
instance Cert.Pre_finite_scores_ReferenceIdeal.facts : Cert.Pre_finite_scores_ReferenceIdeal.Facts where
  bitsLt_bf16_f32 := by decide
  bcast_S_S1x512x1024 := by decide
  reducesTo_S1x512x1024_S_d0_1_2 := by decide
  h_S_ := by decide
  bcast_S_S1024x4096 := by decide
  reducesTo_S1024x4096_S_d0_1 := by decide
  bcast_S_S1024x1024 := by decide
  reducesTo_S1024x1024_S_d0_1 := by decide

namespace Cert.Finite

open Cert.Pre_finite_scores_KernelIdeal

/-- A scalar has one index. -/
instance : Subsingleton S_.Idx := ⟨fun a b => funext fun i => i.elim0⟩

/-- An extended real strictly between the infinities is real. -/
theorem real_of_bounds (x : EReal) (h : IntOp.andi (Ideal.cmp .olt x ⊤) (Ideal.cmp .ogt x ⊥) = 1#1) : ∃ r : ℝ, x = r := by
  induction x using EReal.rec with
  | bot => simp [Ideal.cmp, IntOp.andi] at h
  | top => simp [Ideal.cmp, IntOp.andi] at h
  | coe r => exact ⟨r, rfl⟩

/-- One array's test, read back: every element is real. -/
theorem real_of_all {s : Shape} {axes : List (Fin s.rank)} (x : FVec Ideal s .bf16) (hb : S_.BroadcastsInDim s (![] : Fin 0 → Fin s.rank))
    (h : s.ReducesTo axes S_) (hu : 0 < S_.numel) (hl : FTy.bits .bf16 < FTy.bits .f32) (j : S_.Idx)
    (e : Host.reduce IntOp.andi (andi (cmpf .olt (extf .f32 x hl) (broadcastInDim s ![] hb (constant S_ .f32 0x7F800000#32)))
      (cmpf .ogt (extf .f32 x hl) (broadcastInDim s ![] hb (constant S_ .f32 0xFF800000#32)))) (constantI S_ 1 1#1) h hu j = 1#1) (i : s.Idx) :
    ∃ r : ℝ, (x i : EReal) = r := by
  have := Host.reduce_andi_all _ _ _ _ _ e i
  refine real_of_bounds _ ?_
  rw [← Cert.Consts.ofBits_top, ← Cert.Consts.ofBits_bot]
  exact this

/-- Under the precondition the input, the query projection and the key projection are real. -/
theorem real_of_pre (a0 : FVec Ideal S1x512x1024 .bf16) (a1 a2 a3 a4 : FVec Ideal S1024x1024 .bf16)
    (h : fn (F := Ideal) a0 a1 a2 a3 a4 = fun _ => 1#1) :
    (∀ i, ∃ r : ℝ, (a0 i : EReal) = r) ∧ (∀ i, ∃ r : ℝ, (a1 i : EReal) = r) ∧ (∀ i, ∃ r : ℝ, (a2 i : EReal) = r) := by
  have h := congrFun h (fun i => i.elim0)
  dsimp only [fn, fn_part1] at h
  obtain ⟨h01, h2⟩ := IntOp.andi_eq_one.1 h
  obtain ⟨h0, h1⟩ := IntOp.andi_eq_one.1 h01
  exact ⟨real_of_all a0 _ _ _ _ _ h0, real_of_all a1 _ _ _ _ _ h1, real_of_all a2 _ _ _ _ _ h2⟩

end Cert.Finite
-- ==== Proof.Value.Algebraic.lean ====
/-
  The algebraic claim: every device's result is the reference's result, and so both programs run to the same values.
-/
module

public import proofs.«01_k».proof.Proof.Value.Equation
public import proofs.«01_k».proof.Proof.Value.Finite
public import proofs.«01_k».proof.Proof.Frames

@[expose] public section

noncomputable section

namespace Cert.Algebraic

open Idealize.ShloMosaic Idealize.ShloMosaic.TcCoe Idealize.SL.Sem
open Cert.Equation
open Cert.KernelIdeal.Gen (V3)
open Cert.KernelIdeal.Run (outs Xm Wm Om outW p1 p2)
open Cert.KernelIdeal.Value (part att)
open Cert.ReferenceIdeal.Stages (whole result_eq final_at)

/-- Device `c`'s block of the query projection is the columns from `1024 c` on. -/
theorem block_col (c : Fin 4) (w : FVec Ideal Cert.ReferenceIdeal.S1024x4096 .bf16) (u n : Fin 1024) :
    Layout.block ⟨2, ![1024, 1024]⟩ ⟨2, ![1024, 4096]⟩ 1 4 c w (by decide) (ix2 u n) = w (ix2 u ⟨1024 * c.1 + n.1, by omega⟩) := by
  rw [Layout.block_apply]
  refine congrArg w (funext fun a => Fin.ext ?_)
  rw [Layout.Tiles.idx_val]
  fin_cases a
  · rfl
  · show c.1 * 1024 + n.1 = 1024 * c.1 + n.1
    omega

/-- Device `c`'s block of the output projection is the rows from `1024 c` on. -/
theorem block_row (c : Fin 4) (w : FVec Ideal Cert.ReferenceIdeal.S4096x1024 .bf16) (j n : Fin 1024) :
    Layout.block ⟨2, ![1024, 1024]⟩ ⟨2, ![4096, 1024]⟩ 0 4 c w (by decide) (ix2 j n) = w (ix2 ⟨1024 * c.1 + j.1, by omega⟩ n) := by
  rw [Layout.block_apply]
  refine congrArg w (funext fun a => Fin.ext ?_)
  rw [Layout.Tiles.idx_val]
  fin_cases a
  · show c.1 * 1024 + j.1 = 1024 * c.1 + j.1
    omega
  · rfl

section
variable (m : (ℓ : Loc Cert.KernelIdeal.nD Cert.KernelIdeal.τ Cert.KernelIdeal.sig) → Buf (Elt Ideal) ℓ)
  (x : FVec Ideal Cert.ReferenceIdeal.S1x512x1024 .bf16) (wq : FVec Ideal Cert.ReferenceIdeal.S1024x4096 .bf16)
  (wk wv : FVec Ideal Cert.ReferenceIdeal.S1024x1024 .bf16) (wo : FVec Ideal Cert.ReferenceIdeal.S4096x1024 .bf16)

/-- The devices' arguments are their parts of the whole arrays. -/
def Agrees : Prop := ∀ c : Dev Cert.KernelIdeal.nD,
  m ((c.tc : Thread Cert.KernelIdeal.nD Cert.KernelIdeal.τ).loc Cert.KernelIdeal.main_arg0) = x
  ∧ m ((c.tc : Thread Cert.KernelIdeal.nD Cert.KernelIdeal.τ).loc Cert.KernelIdeal.main_arg1)
      = Layout.block ⟨2, ![1024, 1024]⟩ ⟨2, ![1024, 4096]⟩ 1 4 c wq
  ∧ m ((c.tc : Thread Cert.KernelIdeal.nD Cert.KernelIdeal.τ).loc Cert.KernelIdeal.main_arg2) = wk
  ∧ m ((c.tc : Thread Cert.KernelIdeal.nD Cert.KernelIdeal.τ).loc Cert.KernelIdeal.main_arg3) = wv
  ∧ m ((c.tc : Thread Cert.KernelIdeal.nD Cert.KernelIdeal.τ).loc Cert.KernelIdeal.main_arg4)
      = Layout.block ⟨2, ![1024, 1024]⟩ ⟨2, ![4096, 1024]⟩ 0 4 c wo

variable {m x wq wk wv wo} (A : Agrees m x wq wk wv wo)

include A in
/-- What the kernel's windows on device `c` hold of the whole arrays. -/
theorem held (c : Dev Cert.KernelIdeal.nD) : Held x wq wk wv wo c (Xm m c) (Wm m c) (Om m c) where
  hx i u := (Cert.KernelIdeal.Value.x_at m c i u).trans (congrFun (A c).1 (ix3 0 i u))
  hq u n := (Cert.KernelIdeal.Value.wq_at m c u n).trans ((congrFun (A c).2.1 (ix2 u n)).trans (block_col c wq u n))
  hk u n := (Cert.KernelIdeal.Value.wk_at m c u n).trans (congrFun (A c).2.2.1 _)
  hv u n := (Cert.KernelIdeal.Value.wv_at m c u n).trans (congrFun (A c).2.2.2.1 _)
  ho j n := (congrFun (Cert.KernelIdeal.Value.o_eq m c) (ix2 j n)).trans ((congrFun (A c).2.2.2.2 (ix2 j n)).trans (block_row c wo j n))

include A in
/-- Under the precondition the operands of the scores are real matrices. -/
theorem reals (hp : Cert.Pre_KernelIdeal_finite_scores_KernelIdeal m) : Nonempty (Reals x wq wk) := by
  have hr := fun c => Cert.Finite.real_of_pre _ _ _ _ _ (hp c)
  have h0 : ∀ i u, ∃ r : ℝ, x (ix3 0 i u) = (r : EReal) := fun i u =>
    (((hr 0).1 (ix3 0 i u)).imp fun r h => (congrFun (A 0).1 (ix3 0 i u)).symm.trans h)
  have h2 : ∀ u n, ∃ r : ℝ, wk (ix2 u n) = (r : EReal) := fun u n =>
    (((hr 0).2.2 (ix2 u n)).imp fun r h => (congrFun (A 0).2.2.1 (ix2 u n)).symm.trans h)
  have h1 : ∀ (u : Fin 1024) (n : Fin 4096), ∃ r : ℝ, wq (ix2 u n) = (r : EReal) := fun u n => by
    let c : Fin 4 := ⟨n.1 / 1024, by omega⟩
    let k : Fin 1024 := ⟨n.1 % 1024, by omega⟩
    obtain ⟨r, h⟩ := (hr c).2.1 (ix2 u k)
    refine ⟨r, Eq.trans ?_ ((congrFun (A c).2.1 (ix2 u k)).symm.trans h)⟩
    rw [block_col]
    exact congrArg (fun q => wq (ix2 u q)) (Fin.ext (by show n.1 = 1024 * (n.1 / 1024) + n.1 % 1024; omega))
  choose xr hx using h0
  choose qr hq using h1
  choose kr hk using h2
  exact ⟨⟨xr, qr, kr, hx, hq, hk⟩⟩

include A in
/-- Every device's result is the reference's function of the whole arrays. -/
theorem result (hp : Cert.Pre_KernelIdeal_finite_scores_KernelIdeal m) (c : Dev Cert.KernelIdeal.nD) :
    V3 m (outs m) c (Proc.devRef .tc Cert.KernelIdeal.main_v17) = whole x wq wk wv wo := by
  obtain ⟨r⟩ := reals A hp
  funext j
  obtain ⟨i, n, rfl⟩ : ∃ (i : Fin 512) (n : Fin 1024), j = ix3 0 i n :=
    ⟨j 1, j 2, funext fun a => by
      fin_cases a
      · exact Subsingleton.elim (α := Fin 1) _ _
      · rfl
      · rfl⟩
  refine (Cert.KernelIdeal.Value.v17_at m c i n).trans ?_
  refine (Cert.KernelIdeal.Value.out_at m c i n).trans ?_
  unfold whole
  refine Eq.trans ?_ ((final_at wo _ _ i n).trans (sum_devices _)).symm
  refine Eq.trans ?_ (exchanged _ c)
  have P := fun d => part_eq r (held A d) i n _ fun _ => rfl
  exact congrArg₂ (· + ·) (congrArg₂ (· + ·) (P c) (P (p1 c))) (congrArg₂ (· + ·) (P (p2 c)) (P (p1 (p2 c))))
end

/-- The kernel on four devices and the reference on one run, from arguments that agree, to the same result. -/
theorem algebraic : Cert.algebraic_KernelIdeal_ReferenceIdeal_pre_finite_scores_KernelIdeal := fun m ρ m' ρ' hp A =>
  ⟨_, (θ_run Cert.KernelIdeal.defs _ _).mono (fun _ h c => ⟨(h.1 c).1.trans (result A hp c), (h.1 c).2⟩) (Cert.KernelIdeal.Run.run_main (F := Ideal) m ρ),
    (θ_run Cert.ReferenceIdeal.defs _ _).mono (fun _ h => ⟨(h 0).1.trans (result_eq m' 0), (h 0).2⟩) (Cert.ReferenceIdeal.Value.run (F := Ideal) m' ρ')⟩

/-- The kernel's frame, under the precondition of the algebraic claim. -/
theorem frame_pi : Cert.quiescent_KernelIdeal_pre_finite_scores_KernelIdeal := fun m ρ _ => Frames.frame_pi m ρ trivial

/-- The reference's frame, under the same precondition of its own arguments. -/
theorem frame_ri : Cert.quiescent_ReferenceIdeal_pre_finite_scores_ReferenceIdeal := fun m ρ _ => Frames.frame_ri m ρ trivial

end Cert.Algebraic

end
-- ==== Proof.lean ====
/-
  The proof of the certificate's claim: the frames and the named constant (Proof/Frames.lean) and the equality of the results
  (Proof/Value/Algebraic.lean), behind the witnesses of the programs' stated facts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Pre_finite_scores_KernelIdeal.facts, Cert.Pre_finite_scores_ReferenceIdeal.facts,
    Frames.frame_p, Frames.frame_pi, Algebraic.frame_pi, Frames.frame_ri, Algebraic.frame_ri, Frames.preserves, Algebraic.algebraic⟩

end Cert.Proof

end
